-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x200 : Shape := ⟨2, ![16384, 200]⟩
abbrev S6x32 : Shape := ⟨2, ![6, 32]⟩
abbrev S32x1 : Shape := ⟨2, ![32, 1]⟩
abbrev S32 : Shape := ⟨1, ![32]⟩
abbrev S32x32 : Shape := ⟨2, ![32, 32]⟩
abbrev S_ : Shape := ⟨0, ![]⟩

class Facts : Prop where
  bcast_S_S16384x200 : S_.BroadcastsInDim S16384x200 (![] : Fin 0 → Fin S16384x200.rank)

variable [Facts]

def fn {F : FTy → Type} [FloatOps F] (main_arg0 : FVec F S16384x200 .f32) (main_arg1 : FVec F S16384x200 .f32) (main_arg2 : IVec S16384x200 32) (main_arg3 : FVec F S6x32 .f32) (main_arg4 : FVec F S32x1 .f32) (main_arg5 : FVec F S32 .f32) (main_arg6 : FVec F S32x32 .f32) (main_arg7 : FVec F S32 .f32) (main_arg8 : FVec F S32x32 .f32) (main_arg9 : FVec F S32 .f32) : IVec S16384x200 1 :=
  let main_c : IVec S_ 32 := constantI S_ 32 0#32
  let main_v0 : IVec S16384x200 32 := broadcastInDim S16384x200 ![] bcast_S_S16384x200 main_c
  let main_v1 : IVec S16384x200 1 := cmpi .sge main_arg2 main_v0
  let main_c_0 : IVec S_ 32 := constantI S_ 32 6#32
  let main_v2 : IVec S16384x200 32 := broadcastInDim S16384x200 ![] bcast_S_S16384x200 main_c_0
  let main_v3 : IVec S16384x200 1 := cmpi .slt main_arg2 main_v2
  let main_v4 : IVec S16384x200 1 := andi main_v1 main_v3
  main_v4
-- ==== Kernel.lean ====
abbrev S16384x200 : Shape := ⟨2, ![16384, 200]⟩
abbrev S6x32 : Shape := ⟨2, ![6, 32]⟩
abbrev S32x1 : Shape := ⟨2, ![32, 1]⟩
abbrev S32 : Shape := ⟨1, ![32]⟩
abbrev S32x32 : Shape := ⟨2, ![32, 32]⟩
abbrev S16 : Shape := ⟨1, ![16]⟩
abbrev S_ : Shape := ⟨0, ![]⟩
abbrev S4x4 : Shape := ⟨2, ![4, 4]⟩
abbrev S4x4x1 : Shape := ⟨3, ![4, 4, 1]⟩
abbrev S1x1x32 : Shape := ⟨3, ![1, 1, 32]⟩
abbrev S4x4x32 : Shape := ⟨3, ![4, 4, 32]⟩
abbrev S4x128 : Shape := ⟨2, ![4, 128]⟩
abbrev S1x32 : Shape := ⟨2, ![1, 32]⟩
abbrev S128x32 : Shape := ⟨2, ![128, 32]⟩
abbrev S4096 : Shape := ⟨1, ![4096]⟩
abbrev S1x4096 : Shape := ⟨2, ![1, 4096]⟩
abbrev S8x4096 : Shape := ⟨2, ![8, 4096]⟩
abbrev S8x8 : Shape := ⟨2, ![8, 8]⟩
abbrev S8x1x8x1 : Shape := ⟨4, ![8, 1, 8, 1]⟩
abbrev S1x32x1x32 : Shape := ⟨4, ![1, 32, 1, 32]⟩
abbrev S8x32x8x32 : Shape := ⟨4, ![8, 32, 8, 32]⟩
abbrev S256x256 : Shape := ⟨2, ![256, 256]⟩
abbrev S1 : Shape := ⟨1, ![1]⟩
abbrev S16384x200x32 : Shape := ⟨3, ![16384, 200, 32]⟩
abbrev S128x200 : Shape := ⟨2, ![128, 200]⟩
abbrev S128x200x32 : Shape := ⟨3, ![128, 200, 32]⟩
abbrev S4x200 : Shape := ⟨2, ![4, 200]⟩
abbrev S200x128 : Shape := ⟨2, ![200, 128]⟩
abbrev S200x4096 : Shape := ⟨2, ![200, 4096]⟩
abbrev S200x256 : Shape := ⟨2, ![200, 256]⟩
abbrev S200x32 : Shape := ⟨2, ![200, 32]⟩
abbrev S1x200x32 : Shape := ⟨3, ![1, 200, 32]⟩

abbrev nBuf : Space → Nat
  | .hbm => 154
  | .vmem => 18
  | .smem => 0
  | _ => 0

abbrev hbmTy0_0 (i : Nat) : BufTy := match i % 128 with
  | 0 => ⟨S16384x200, .f32⟩
  | 1 => ⟨S16384x200, .f32⟩
  | 2 => ⟨S16384x200, .i32⟩
  | 3 => ⟨S6x32, .f32⟩
  | 4 => ⟨S32x1, .f32⟩
  | 5 => ⟨S32, .f32⟩
  | 6 => ⟨S32x32, .f32⟩
  | 7 => ⟨S32, .f32⟩
  | 8 => ⟨S32x32, .f32⟩
  | 9 => ⟨S32, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S32, .f32⟩
  | 19 => ⟨S4x4, .i32⟩
  | 20 => ⟨S4x4, .i32⟩
  | 21 => ⟨S_, .i32⟩
  | 22 => ⟨S4x4, .i32⟩
  | 23 => ⟨S4x4, .i32⟩
  | 24 => ⟨S4x4, .i1⟩
  | 25 => ⟨S4x4, .f32⟩
  | 26 => ⟨S4x4x1, .f32⟩
  | 27 => ⟨S1x1x32, .f32⟩
  | 28 => ⟨S4x4x32, .f32⟩
  | 29 => ⟨S4x4x32, .f32⟩
  | 30 => ⟨S4x4x32, .f32⟩
  | 31 => ⟨S4x128, .f32⟩
  | 32 => ⟨S4x4x1, .f32⟩
  | 33 => ⟨S32, .f32⟩
  | 34 => ⟨S1x1x32, .f32⟩
  | 35 => ⟨S4x4x32, .f32⟩
  | 36 => ⟨S4x4x32, .f32⟩
  | 37 => ⟨S4x4x32, .f32⟩
  | 38 => ⟨S4x128, .f32⟩
  | 39 => ⟨S4x4x1, .f32⟩
  | 40 => ⟨S_, .f32⟩
  | 41 => ⟨S32, .f32⟩
  | 42 => ⟨S1x1x32, .f32⟩
  | 43 => ⟨S4x4x32, .f32⟩
  | 44 => ⟨S4x4x32, .f32⟩
  | 45 => ⟨S4x4x32, .f32⟩
  | 46 => ⟨S4x128, .f32⟩
  | 47 => ⟨S_, .f32⟩
  | 48 => ⟨S16, .f32⟩
  | 49 => ⟨S_, .f32⟩
  | 50 => ⟨S16, .f32⟩
  | 51 => ⟨S32, .f32⟩
  | 52 => ⟨S1x32, .f32⟩
  | 53 => ⟨S128x32, .f32⟩
  | 54 => ⟨S4096, .f32⟩
  | 55 => ⟨S_, .f32⟩
  | 56 => ⟨S16, .f32⟩
  | 57 => ⟨S_, .f32⟩
  | 58 => ⟨S16, .f32⟩
  | 59 => ⟨S32, .f32⟩
  | 60 => ⟨S1x32, .f32⟩
  | 61 => ⟨S128x32, .f32⟩
  | 62 => ⟨S4096, .f32⟩
  | 63 => ⟨S_, .f32⟩
  | 64 => ⟨S16, .f32⟩
  | 65 => ⟨S_, .f32⟩
  | 66 => ⟨S16, .f32⟩
  | 67 => ⟨S32, .f32⟩
  | 68 => ⟨S1x32, .f32⟩
  | 69 => ⟨S128x32, .f32⟩
  | 70 => ⟨S4096, .f32⟩
  | 71 => ⟨S_, .f32⟩
  | 72 => ⟨S16, .f32⟩
  | 73 => ⟨S_, .f32⟩
  | 74 => ⟨S16, .f32⟩
  | 75 => ⟨S32, .f32⟩
  | 76 => ⟨S1x32, .f32⟩
  | 77 => ⟨S128x32, .f32⟩
  | 78 => ⟨S4096, .f32⟩
  | 79 => ⟨S_, .f32⟩
  | 80 => ⟨S16, .f32⟩
  | 81 => ⟨S_, .f32⟩
  | 82 => ⟨S16, .f32⟩
  | 83 => ⟨S32, .f32⟩
  | 84 => ⟨S1x32, .f32⟩
  | 85 => ⟨S128x32, .f32⟩
  | 86 => ⟨S4096, .f32⟩
  | 87 => ⟨S_, .f32⟩
  | 88 => ⟨S16, .f32⟩
  | 89 => ⟨S_, .f32⟩
  | 90 => ⟨S16, .f32⟩
  | 91 => ⟨S32, .f32⟩
  | 92 => ⟨S1x32, .f32⟩
  | 93 => ⟨S128x32, .f32⟩
  | 94 => ⟨S4096, .f32⟩
  | 95 => ⟨S_, .f32⟩
  | 96 => ⟨S4096, .f32⟩
  | 97 => ⟨S4096, .f32⟩
  | 98 => ⟨S_, .f32⟩
  | 99 => ⟨S4096, .f32⟩
  | 100 => ⟨S1x4096, .f32⟩
  | 101 => ⟨S1x4096, .f32⟩
  | 102 => ⟨S1x4096, .f32⟩
  | 103 => ⟨S1x4096, .f32⟩
  | 104 => ⟨S1x4096, .f32⟩
  | 105 => ⟨S1x4096, .f32⟩
  | 106 => ⟨S1x4096, .f32⟩
  | 107 => ⟨S1x4096, .f32⟩
  | 108 => ⟨S8x4096, .f32⟩
  | 109 => ⟨S32, .f32⟩
  | 110 => ⟨S1x32, .f32⟩
  | 111 => ⟨S128x32, .f32⟩
  | 112 => ⟨S4096, .f32⟩
  | 113 => ⟨S1x4096, .f32⟩
  | 114 => ⟨S8x8, .i32⟩
  | 115 => ⟨S8x8, .i32⟩
  | 116 => ⟨S_, .i32⟩
  | 117 => ⟨S8x8, .i32⟩
  | 118 => ⟨S8x8, .i32⟩
  | 119 => ⟨S8x8, .i1⟩
  | 120 => ⟨S8x8, .f32⟩
  | 121 => ⟨S8x1x8x1, .f32⟩
  | 122 => ⟨S1x32x1x32, .f32⟩
  | 123 => ⟨S8x32x8x32, .f32⟩
  | 124 => ⟨S8x32x8x32, .f32⟩
  | 125 => ⟨S8x32x8x32, .f32⟩
  | 126 => ⟨S256x256, .f32⟩
  | 127 => ⟨S8x1x8x1, .f32⟩
  | _ => ⟨S16384x200, .f32⟩

abbrev hbmTy0_1 (i : Nat) : BufTy := match i % 128 with
  | 0 => ⟨S1x32x1x32, .f32⟩
  | 1 => ⟨S8x32x8x32, .f32⟩
  | 2 => ⟨S8x32x8x32, .f32⟩
  | 3 => ⟨S8x32x8x32, .f32⟩
  | 4 => ⟨S256x256, .f32⟩
  | 5 => ⟨S_, .f32⟩
  | 6 => ⟨S32x32, .f32⟩
  | 7 => ⟨S_, .i32⟩
  | 8 => ⟨S1, .i32⟩
  | 9 => ⟨S32x32, .f32⟩
  | 10 => ⟨S8x1x8x1, .f32⟩
  | 11 => ⟨S1x32x1x32, .f32⟩
  | 12 => ⟨S8x32x8x32, .f32⟩
  | 13 => ⟨S8x32x8x32, .f32⟩
  | 14 => ⟨S8x32x8x32, .f32⟩
  | 15 => ⟨S256x256, .f32⟩
  | 16 => ⟨S1x32, .f32⟩
  | 17 => ⟨S128x32, .f32⟩
  | 18 => ⟨S4096, .f32⟩
  | 19 => ⟨S1x4096, .f32⟩
  | 20 => ⟨S32, .f32⟩
  | 21 => ⟨S1x32, .f32⟩
  | 22 => ⟨S128x32, .f32⟩
  | 23 => ⟨S4096, .f32⟩
  | 24 => ⟨S1x4096, .f32⟩
  | 25 => ⟨S16384x200x32, .f32⟩
  | _ => ⟨S16384x200, .f32⟩

abbrev hbmTy (i : Nat) : BufTy := match i / 128 with
  | 0 => hbmTy0_0 i
  | 1 => hbmTy0_1 i
  | _ => ⟨S16384x200, .f32⟩

abbrev bufTy : (tb : Table) → Fin (tcTables nBuf tb) → BufTy
  | .hbm, ⟨i, _⟩ => hbmTy i
  | .local _ .vmem, ⟨0, _⟩ => ⟨S128x200, .f32⟩
  | .local _ .vmem, ⟨1, _⟩ => ⟨S128x200, .f32⟩
  | .local _ .vmem, ⟨2, _⟩ => ⟨S128x200, .f32⟩
  | .local _ .vmem, ⟨3, _⟩ => ⟨S128x200, .f32⟩
  | .local _ .vmem, ⟨4, _⟩ => ⟨S128x200, .i32⟩
  | .local _ .vmem, ⟨5, _⟩ => ⟨S128x200, .i32⟩
  | .local _ .vmem, ⟨6, _⟩ => ⟨S4x128, .f32⟩
  | .local _ .vmem, ⟨7, _⟩ => ⟨S4x128, .f32⟩
  | .local _ .vmem, ⟨8, _⟩ => ⟨S4x128, .f32⟩
  | .local _ .vmem, ⟨9, _⟩ => ⟨S8x4096, .f32⟩
  | .local _ .vmem, ⟨10, _⟩ => ⟨S1x4096, .f32⟩
  | .local _ .vmem, ⟨11, _⟩ => ⟨S256x256, .f32⟩
  | .local _ .vmem, ⟨12, _⟩ => ⟨S1x4096, .f32⟩
  | .local _ .vmem, ⟨13, _⟩ => ⟨S256x256, .f32⟩
  | .local _ .vmem, ⟨14, _⟩ => ⟨S256x256, .f32⟩
  | .local _ .vmem, ⟨15, _⟩ => ⟨S1x4096, .f32⟩
  | .local _ .vmem, ⟨16, _⟩ => ⟨S128x200x32, .f32⟩
  | .local _ .vmem, ⟨17, _⟩ => ⟨S128x200x32, .f32⟩
  | _, _ => ⟨S16384x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_call0_cst_0 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_cst_1 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_cst_2 : Ref sig .tc := ⟨.hbm, 47, rfl⟩
abbrev main_call0_v33 : Ref sig .tc := ⟨.hbm, 48, rfl⟩
abbrev main_call0_cst_3 : Ref sig .tc := ⟨.hbm, 49, rfl⟩
abbrev main_call0_v34 : Ref sig .tc := ⟨.hbm, 50, rfl⟩
abbrev main_call0_v35 : Ref sig .tc := ⟨.hbm, 51, rfl⟩
abbrev main_call0_v36 : Ref sig .tc := ⟨.hbm, 52, rfl⟩
abbrev main_call0_v37 : Ref sig .tc := ⟨.hbm, 53, rfl⟩
abbrev main_call0_v38 : Ref sig .tc := ⟨.hbm, 54, rfl⟩
abbrev main_call0_cst_4 : Ref sig .tc := ⟨.hbm, 55, rfl⟩
abbrev main_call0_v39 : Ref sig .tc := ⟨.hbm, 56, rfl⟩
abbrev main_call0_cst_5 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_call0_cst_6 : Ref sig .tc := ⟨.hbm, 63, rfl⟩
abbrev main_call0_v45 : Ref sig .tc := ⟨.hbm, 64, rfl⟩
abbrev main_call0_cst_7 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_cst_8 : Ref sig .tc := ⟨.hbm, 71, rfl⟩
abbrev main_call0_v51 : Ref sig .tc := ⟨.hbm, 72, rfl⟩
abbrev main_call0_cst_9 : Ref sig .tc := ⟨.hbm, 73, rfl⟩
abbrev main_call0_v52 : Ref sig .tc := ⟨.hbm, 74, rfl⟩
abbrev main_call0_v53 : Ref sig .tc := ⟨.hbm, 75, rfl⟩
abbrev main_call0_v54 : Ref sig .tc := ⟨.hbm, 76, rfl⟩
abbrev main_call0_v55 : Ref sig .tc := ⟨.hbm, 77, rfl⟩
abbrev main_call0_v56 : Ref sig .tc := ⟨.hbm, 78, rfl⟩
abbrev main_call0_cst_10 : Ref sig .tc := ⟨.hbm, 79, rfl⟩
abbrev main_call0_v57 : Ref sig .tc := ⟨.hbm, 80, rfl⟩
abbrev main_call0_cst_11 : Ref sig .tc := ⟨.hbm, 81, rfl⟩
abbrev main_call0_v58 : Ref sig .tc := ⟨.hbm, 82, rfl⟩
abbrev main_call0_v59 : Ref sig .tc := ⟨.hbm, 83, rfl⟩
abbrev main_call0_v60 : Ref sig .tc := ⟨.hbm, 84, rfl⟩
abbrev main_call0_v61 : Ref sig .tc := ⟨.hbm, 85, rfl⟩
abbrev main_call0_v62 : Ref sig .tc := ⟨.hbm, 86, rfl⟩
abbrev main_call0_cst_12 : Ref sig .tc := ⟨.hbm, 87, rfl⟩
abbrev main_call0_v63 : Ref sig .tc := ⟨.hbm, 88, rfl⟩
abbrev main_call0_cst_13 : Ref sig .tc := ⟨.hbm, 89, rfl⟩
abbrev main_call0_v64 : Ref sig .tc := ⟨.hbm, 90, rfl⟩
abbrev main_call0_v65 : Ref sig .tc := ⟨.hbm, 91, rfl⟩
abbrev main_call0_v66 : Ref sig .tc := ⟨.hbm, 92, rfl⟩
abbrev main_call0_v67 : Ref sig .tc := ⟨.hbm, 93, rfl⟩
abbrev main_call0_v68 : Ref sig .tc := ⟨.hbm, 94, rfl⟩
abbrev main_call0_cst_14 : Ref sig .tc := ⟨.hbm, 95, rfl⟩
abbrev main_call0_v69 : Ref sig .tc := ⟨.hbm, 96, rfl⟩
abbrev main_call0_v70 : Ref sig .tc := ⟨.hbm, 97, rfl⟩
abbrev main_call0_cst_15 : Ref sig .tc := ⟨.hbm, 98, rfl⟩
abbrev main_call0_v71 : Ref sig .tc := ⟨.hbm, 99, rfl⟩
abbrev main_call0_v72 : Ref sig .tc := ⟨.hbm, 100, rfl⟩
abbrev main_call0_v73 : Ref sig .tc := ⟨.hbm, 101, rfl⟩
abbrev main_call0_v74 : Ref sig .tc := ⟨.hbm, 102, rfl⟩
abbrev main_call0_v75 : Ref sig .tc := ⟨.hbm, 103, rfl⟩
abbrev main_call0_v76 : Ref sig .tc := ⟨.hbm, 104, rfl⟩
abbrev main_call0_v77 : Ref sig .tc := ⟨.hbm, 105, rfl⟩
abbrev main_call0_v78 : Ref sig .tc := ⟨.hbm, 106, rfl⟩
abbrev main_call0_v79 : Ref sig .tc := ⟨.hbm, 107, rfl⟩
abbrev main_call0_v80 : Ref sig .tc := ⟨.hbm, 108, rfl⟩
abbrev main_call0_v81 : Ref sig .tc := ⟨.hbm, 109, rfl⟩
abbrev main_call0_v82 : Ref sig .tc := ⟨.hbm, 110, rfl⟩
abbrev main_call0_v83 : Ref sig .tc := ⟨.hbm, 111, rfl⟩
abbrev main_call0_v84 : Ref sig .tc := ⟨.hbm, 112, rfl⟩
abbrev main_call0_v85 : Ref sig .tc := ⟨.hbm, 113, rfl⟩
abbrev main_call0_v86 : Ref sig .tc := ⟨.hbm, 114, rfl⟩
abbrev main_call0_v87 : Ref sig .tc := ⟨.hbm, 115, rfl⟩
abbrev main_call0_c_16 : Ref sig .tc := ⟨.hbm, 116, rfl⟩
abbrev main_call0_v88 : Ref sig .tc := ⟨.hbm, 117, rfl⟩
abbrev main_call0_v89 : Ref sig .tc := ⟨.hbm, 118, rfl⟩
abbrev main_call0_v90 : Ref sig .tc := ⟨.hbm, 119, rfl⟩
abbrev main_call0_v91 : Ref sig .tc := ⟨.hbm, 120, rfl⟩
abbrev main_call0_v92 : Ref sig .tc := ⟨.hbm, 121, rfl⟩
abbrev main_call0_v93 : Ref sig .tc := ⟨.hbm, 122, rfl⟩
abbrev main_call0_v94 : Ref sig .tc := ⟨.hbm, 123, rfl⟩
abbrev main_call0_v95 : Ref sig .tc := ⟨.hbm, 124, rfl⟩
abbrev main_call0_v96 : Ref sig .tc := ⟨.hbm, 125, rfl⟩
abbrev main_call0_v97 : Ref sig .tc := ⟨.hbm, 126, rfl⟩
abbrev main_call0_v98 : Ref sig .tc := ⟨.hbm, 127, rfl⟩
abbrev main_call0_v99 : Ref sig .tc := ⟨.hbm, 128, rfl⟩
abbrev main_call0_v100 : Ref sig .tc := ⟨.hbm, 129, rfl⟩
abbrev main_call0_v101 : Ref sig .tc := ⟨.hbm, 130, rfl⟩
abbrev main_call0_v102 : Ref sig .tc := ⟨.hbm, 131, rfl⟩
abbrev main_call0_v103 : Ref sig .tc := ⟨.hbm, 132, rfl⟩
abbrev main_call0_cst_17 : Ref sig .tc := ⟨.hbm, 133, rfl⟩
abbrev main_call0_v104 : Ref sig .tc := ⟨.hbm, 134, rfl⟩
abbrev main_call0_c_18 : Ref sig .tc := ⟨.hbm, 135, rfl⟩
abbrev main_call0_v105 : Ref sig .tc := ⟨.hbm, 136, rfl⟩
abbrev main_call0_v106 : Ref sig .tc := ⟨.hbm, 137, rfl⟩
abbrev main_call0_v107 : Ref sig .tc := ⟨.hbm, 138, rfl⟩
abbrev main_call0_v108 : Ref sig .tc := ⟨.hbm, 139, rfl⟩
abbrev main_call0_v109 : Ref sig .tc := ⟨.hbm, 140, rfl⟩
abbrev main_call0_v110 : Ref sig .tc := ⟨.hbm, 141, rfl⟩
abbrev main_call0_v111 : Ref sig .tc := ⟨.hbm, 142, rfl⟩
abbrev main_call0_v112 : Ref sig .tc := ⟨.hbm, 143, rfl⟩
abbrev main_call0_v113 : Ref sig .tc := ⟨.hbm, 144, rfl⟩
abbrev main_call0_v114 : Ref sig .tc := ⟨.hbm, 145, rfl⟩
abbrev main_call0_v115 : Ref sig .tc := ⟨.hbm, 146, rfl⟩
abbrev main_call0_v116 : Ref sig .tc := ⟨.hbm, 147, rfl⟩
abbrev main_call0_v117 : Ref sig .tc := ⟨.hbm, 148, rfl⟩
abbrev main_call0_v118 : Ref sig .tc := ⟨.hbm, 149, rfl⟩
abbrev main_call0_v119 : Ref sig .tc := ⟨.hbm, 150, rfl⟩
abbrev main_call0_v120 : Ref sig .tc := ⟨.hbm, 151, rfl⟩
abbrev main_call0_v121 : Ref sig .tc := ⟨.hbm, 152, rfl⟩
abbrev main_v0 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x200x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x200 : Shape := ⟨2, ![16384, 200]⟩
abbrev S6x32 : Shape := ⟨2, ![6, 32]⟩
abbrev S32x1 : Shape := ⟨2, ![32, 1]⟩
abbrev S32 : Shape := ⟨1, ![32]⟩
abbrev S32x32 : Shape := ⟨2, ![32, 32]⟩
abbrev S16 : Shape := ⟨1, ![16]⟩
abbrev S_ : Shape := ⟨0, ![]⟩
abbrev S16384x200x1 : Shape := ⟨3, ![16384, 200, 1]⟩
abbrev S1x1x16 : Shape := ⟨3, ![1, 1, 16]⟩
abbrev S16384x200x16 : Shape := ⟨3, ![16384, 200, 16]⟩
abbrev S16384x200x32 : Shape := ⟨3, ![16384, 200, 32]⟩
abbrev S1x1x32 : Shape := ⟨3, ![1, 1, 32]⟩
abbrev S1 : Shape := ⟨1, ![1]⟩
abbrev S1x1x1 : Shape := ⟨3, ![1, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S16384x200, .f32⟩
  | .hbm, ⟨2, _⟩ => ⟨S16384x200, .i32⟩
  | .hbm, ⟨3, _⟩ => ⟨S6x32, .f32⟩
  | .hbm, ⟨4, _⟩ => ⟨S32x1, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16384x200x1, .f32⟩
  | .hbm, ⟨19, _⟩ => ⟨S1x1x16, .f32⟩
  | .hbm, ⟨20, _⟩ => ⟨S16384x200x16, .f32⟩
  | .hbm, ⟨21, _⟩ => ⟨S16384x200x16, .f32⟩
  | .hbm, ⟨22, _⟩ => ⟨S16384x200x16, .f32⟩
  | .hbm, ⟨23, _⟩ => ⟨S16384x200x16, .f32⟩
  | .hbm, ⟨24, _⟩ => ⟨S_, .f32⟩
  | .hbm, ⟨25, _⟩ => ⟨S16384x200x16, .f32⟩
  | .hbm, ⟨26, _⟩ => ⟨S16384x200x16, .f32⟩
  | .hbm, ⟨27, _⟩ => ⟨S_, .f32⟩
  | .hbm, ⟨28, _⟩ => ⟨S16384x200x16, .f32⟩
  | .hbm, ⟨29, _⟩ => ⟨S16384x200x16, .f32⟩
  | .hbm, ⟨30, _⟩ => ⟨S16384x200x16, .f32⟩
  | .hbm, ⟨31, _⟩ => ⟨S_, .f32⟩
  | .hbm, ⟨32, _⟩ => ⟨S16384x200x16, .f32⟩
  | .hbm, ⟨33, _⟩ => ⟨S16384x200x16, .f32⟩
  | .hbm, ⟨34, _⟩ => ⟨S16384x200x16, .f32⟩
  | .hbm, ⟨35, _⟩ => ⟨S_, .f32⟩
  | .hbm, ⟨36, _⟩ => ⟨S16384x200x16, .f32⟩
  | .hbm, ⟨37, _⟩ => ⟨S16384x200x16, .f32⟩
  | .hbm, ⟨38, _⟩ => ⟨S16384x200x16, .f32⟩
  | .hbm, ⟨39, _⟩ => ⟨S_, .f32⟩
  | .hbm, ⟨40, _⟩ => ⟨S16384x200x16, .f32⟩
  | .hbm, ⟨41, _⟩ => ⟨S16384x200x16, .f32⟩
  | .hbm, ⟨42, _⟩ => ⟨S16384x200x16, .f32⟩
  | .hbm, ⟨43, _⟩ => ⟨S16384x200x16, .f32⟩
  | .hbm, ⟨44, _⟩ => ⟨S_, .f32⟩
  | .hbm, ⟨45, _⟩ => ⟨S16384x200x16, .f32⟩
  | .hbm, ⟨46, _⟩ => ⟨S16384x200x16, .f32⟩
  | .hbm, ⟨47, _⟩ => ⟨S_, .f32⟩
  | .hbm, ⟨48, _⟩ => ⟨S16384x200x16, .f32⟩
  | .hbm, ⟨49, _⟩ => ⟨S16384x200x16, .f32⟩
  | .hbm, ⟨50, _⟩ => ⟨S16384x200x16, .f32⟩
  | .hbm, ⟨51, _⟩ => ⟨S_, .f32⟩
  | .hbm, ⟨52, _⟩ => ⟨S16384x200x16, .f32⟩
  | .hbm, ⟨53, _⟩ => ⟨S16384x200x16, .f32⟩
  | .hbm, ⟨54, _⟩ => ⟨S16384x200x16, .f32⟩
  | .hbm, ⟨55, _⟩ => ⟨S_, .f32⟩
  | .hbm, ⟨56, _⟩ => ⟨S16384x200x16, .f32⟩
  | .hbm, ⟨57, _⟩ => ⟨S16384x200x16, .f32⟩
  | .hbm, ⟨58, _⟩ => ⟨S16384x200x16, .f32⟩
  | .hbm, ⟨59, _⟩ => ⟨S_, .f32⟩
  | .hbm, ⟨60, _⟩ => ⟨S16384x200x16, .f32⟩
  | .hbm, ⟨61, _⟩ => ⟨S16384x200x16, .f32⟩
  | .hbm, ⟨62, _⟩ => ⟨S16384x200x32, .f32⟩
  | .hbm, ⟨63, _⟩ => ⟨S16384x200x32, .f32⟩
  | .hbm, ⟨64, _⟩ => ⟨S1x1x32, .f32⟩
  | .hbm, ⟨65, _⟩ => ⟨S16384x200x32, .f32⟩
  | .hbm, ⟨66, _⟩ => ⟨S16384x200x32, .f32⟩
  | .hbm, ⟨67, _⟩ => ⟨S16384x200x32, .f32⟩
  | .hbm, ⟨68, _⟩ => ⟨S16384x200x32, .f32⟩
  | .hbm, ⟨69, _⟩ => ⟨S_, .f32⟩
  | .hbm, ⟨70, _⟩ => ⟨S16384x200x32, .f32⟩
  | .hbm, ⟨71, _⟩ => ⟨S16384x200x32, .f32⟩
  | .hbm, ⟨72, _⟩ => ⟨S_, .f32⟩
  | .hbm, ⟨73, _⟩ => ⟨S16384x200x32, .f32⟩
  | .hbm, ⟨74, _⟩ => ⟨S16384x200x32, .f32⟩
  | .hbm, ⟨75, _⟩ => ⟨S16384x200x32, .f32⟩
  | .hbm, ⟨76, _⟩ => ⟨S16384x200x32, .f32⟩
  | .hbm, ⟨77, _⟩ => ⟨S1x1x32, .f32⟩
  | .hbm, ⟨78, _⟩ => ⟨S16384x200x32, .f32⟩
  | .hbm, ⟨79, _⟩ => ⟨S16384x200x32, .f32⟩
  | .hbm, ⟨80, _⟩ => ⟨S_, .i32⟩
  | .hbm, ⟨81, _⟩ => ⟨S16384x200, .i32⟩
  | .hbm, ⟨82, _⟩ => ⟨S16384x200, .i1⟩
  | .hbm, ⟨83, _⟩ => ⟨S_, .i32⟩
  | .hbm, ⟨84, _⟩ => ⟨S16384x200, .i32⟩
  | .hbm, ⟨85, _⟩ => ⟨S16384x200, .i32⟩
  | .hbm, ⟨86, _⟩ => ⟨S16384x200, .i32⟩
  | .hbm, ⟨87, _⟩ => ⟨S16384x200x1, .i32⟩
  | .hbm, ⟨88, _⟩ => ⟨S1, .i32⟩
  | .hbm, ⟨89, _⟩ => ⟨S_, .i32⟩
  | .hbm, ⟨90, _⟩ => ⟨S16384x200x1, .i32⟩
  | .hbm, ⟨91, _⟩ => ⟨S16384x200x1, .i1⟩
  | .hbm, ⟨92, _⟩ => ⟨S1x1x1, .i32⟩
  | .hbm, ⟨93, _⟩ => ⟨S16384x200x1, .i32⟩
  | .hbm, ⟨94, _⟩ => ⟨S16384x200x1, .i1⟩
  | .hbm, ⟨95, _⟩ => ⟨S16384x200x1, .i1⟩
  | .hbm, ⟨96, _⟩ => ⟨S_, .i1⟩
  | .hbm, ⟨97, _⟩ => ⟨S16384x200, .i1⟩
  | .hbm, ⟨98, _⟩ => ⟨S16384x200x32, .f32⟩
  | .hbm, ⟨99, _⟩ => ⟨S16384x200x32, .i1⟩
  | .hbm, ⟨100, _⟩ => ⟨S_, .f32⟩
  | .hbm, ⟨101, _⟩ => ⟨S16384x200x32, .f32⟩
  | .hbm, ⟨102, _⟩ => ⟨S16384x200x32, .f32⟩
  | .hbm, ⟨103, _⟩ => ⟨S16384x200x1, .f32⟩
  | .hbm, ⟨104, _⟩ => ⟨S32, .f32⟩
  | .hbm, ⟨105, _⟩ => ⟨S1x1x32, .f32⟩
  | .hbm, ⟨106, _⟩ => ⟨S16384x200x32, .f32⟩
  | .hbm, ⟨107, _⟩ => ⟨S16384x200x32, .f32⟩
  | .hbm, ⟨108, _⟩ => ⟨S16384x200x32, .f32⟩
  | .hbm, ⟨109, _⟩ => ⟨S1x1x32, .f32⟩
  | .hbm, ⟨110, _⟩ => ⟨S16384x200x32, .f32⟩
  | .hbm, ⟨111, _⟩ => ⟨S16384x200x32, .f32⟩
  | .hbm, ⟨112, _⟩ => ⟨S16384x200x32, .f32⟩
  | .hbm, ⟨113, _⟩ => ⟨S16384x200x32, .f32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩

abbrev nD : Nat := 1
abbrev τ : Topo := Topo.v7x

variable {F : FTy → Type} [FloatOps F]
-- ==== Proof.Block.lean ====
/-
  The value of the kernel's block, stated with families: the 32 groups of four rows spread over the lanes by small
  products, the 16 tiles of 256 lanes multiplied by a block-diagonal weight, and the 128 rows of the block stored one
  by one. The generated frame certificate names every intermediate value apart; here the same values are one
  function of the group, of the tile, of the row.
-/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Block

open Idealize.ShloMosaic Idealize.ShloMosaic.TcCoe
open Cert.KernelIdeal Cert.KernelIdeal.Gen

variable {F : FTy → Type} [FloatOps F]

theorem inb_group (g : Fin 32) : ∀ a, (![4 * g.val, 0] : Fin 2 → Nat) a + S4x200.size a ≤ S128x200.size a := by
  intro a
  have := g.isLt
  match a with
  | ⟨0, _⟩ => show 4 * g.val + 4 ≤ 128; omega
  | ⟨1, _⟩ => show 0 + 200 ≤ 200; omega

/-- The rows `4 g .. 4 g + 3` of the block. -/
abbrev group (g : Fin 32) : Rect S128x200 := Rect.unit (s := S128x200) ![4 * g.val, 0] S4x200.size (inb_group g)

/-- The four rows of group `g`, each spread over 32 lanes after multiplication by its pattern. -/
def face (x : Vec F S128x200 .f32) (pat : Vec F S4x128 .f32) (g : Fin 32) : FVec F S200x128 .f32 :=
  matmul dot_S4x200_S4x128_S200x128_0_0_1_1_n_n none (View.ld x (group g))
    (shapeCast S4x128 (View.ld pat r0_0) shapeCasts_S4x128_S4x128) (constant S200x128 .f32 0x00000000#32)

theorem concat_faces (f : Fin 32 → S200x128.Idx → F .f32) :
    Shape.Concatenates ((List.ofFn fun g : Fin 32 => (⟨S200x128, f g⟩ : (s : Shape) × (s.Idx → F .f32))).map (·.1))
      S200x4096 1 :=
  concatenates_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x128_S200x4096_d1

/-- All the groups side by side. -/
def faces (x : Vec F S128x200 .f32) (pat : Vec F S4x128 .f32) : FVec F S200x4096 .f32 :=
  concatenate S200x4096 1 (List.ofFn fun g : Fin 32 => ⟨S200x128, face x pat g⟩) (concat_faces _)

theorem slices_tile (k : Fin 16) : S200x4096.Slices ![0, 256 * k.val] S200x256 := by
  revert k; decide

/-- Tile `k` of 256 lanes, times the block-diagonal weight. -/
def tile (X : FVec F S200x4096 .f32) (w : Vec F S256x256 .f32) (k : Fin 16) : FVec F S200x256 .f32 :=
  matmul dot_S200x256_S256x256_S200x256_1_0_0_1_n_n none (extractStridedSlice S200x256 ![0, 256 * k.val] X (slices_tile k))
    (shapeCast S256x256 (View.ld w r0_40) shapeCasts_S256x256_S256x256) (constant S200x256 .f32 0x00000000#32)

theorem concat_tiles (f : Fin 16 → S200x256.Idx → F .f32) :
    Shape.Concatenates ((List.ofFn fun g : Fin 16 => (⟨S200x256, f g⟩ : (s : Shape) × (s.Idx → F .f32))).map (·.1))
      S200x4096 1 :=
  concatenates_S200x256_S200x256_S200x256_S200x256_S200x256_S200x256_S200x256_S200x256_S200x256_S200x256_S200x256_S200x256_S200x256_S200x256_S200x256_S200x256_S200x4096_d1

/-- All the tiles side by side. -/
def tiles (X : FVec F S200x4096 .f32) (w : Vec F S256x256 .f32) : FVec F S200x4096 .f32 :=
  concatenate S200x4096 1 (List.ofFn fun k : Fin 16 => ⟨S200x256, tile X w k⟩) (concat_tiles _)

/-- One row of 4096 lanes, repeated over the 200 sublanes. -/
def lanes (v : Vec F S1x4096 .f32) : FVec F S200x4096 .f32 :=
  broadcastTo S200x4096 (shapeCast S1x4096 v shapeCasts_S1x4096_S1x4096) broadcasts_S1x4096_S200x4096

/-- The sinusoidal features: the polynomial in the squared angle, times the angle on the sine lanes and times one on
    the cosine lanes. -/
def features (y : FVec F S200x4096 .f32) (coef : Vec F S8x4096 .f32) : FVec F S200x4096 .f32 :=
  mulf
    (addf (mulf (addf (mulf (addf (mulf (addf (mulf (lanes (View.ld coef r0_33)) (mulf y y)) (lanes (View.ld coef r0_34)))
      (mulf y y)) (lanes (View.ld coef r0_35))) (mulf y y)) (lanes (View.ld coef r0_36))) (mulf y y)) (lanes (View.ld coef r0_37)))
    (addf (mulf (lanes (View.ld coef r0_38)) y) (lanes (View.ld coef r0_39)))

/-- The hidden layer before its activation. -/
def hidden (X : FVec F S200x4096 .f32) (w1 : Vec F S256x256 .f32) (b1 : Vec F S1x4096 .f32) : FVec F S200x4096 .f32 :=
  addf (tiles X w1) (lanes (View.ld b1 r0_41))

/-- The indicator of each lane's band number. -/
def indicator (bb : FVec F S200x4096 .f32) (kpat : Vec F S1x4096 .f32) : FVec F S200x4096 .f32 :=
  sitofp .f32 (extui 32 (cmpf .oeq bb (lanes (View.ld kpat r0_41))) natLt_1_32)

/-- The block's sum before it is stored row by row. -/
def acc (x0 x1 : Vec F S128x200 .f32) (x2 : Vec F S128x200 .i32) (x3 x4 x5 : Vec F S4x128 .f32) (x6 : Vec F S8x4096 .f32)
    (x7 : Vec F S1x4096 .f32) (x8 : Vec F S256x256 .f32) (x9 : Vec F S1x4096 .f32) (x10 x11 : Vec F S256x256 .f32)
    (x12 : Vec F S1x4096 .f32) : FVec F S200x4096 .f32 :=
  addf (addf (addf
    (tiles (mulf (hidden (features (faces x0 x3) x6) x8 x9) (logistic (hidden (features (faces x0 x3) x6) x8 x9))) x10)
    (tiles (indicator (faces (sitofp .f32 x2) x5) x7) x11))
    (faces x1 x4)) (lanes (View.ld x12 r0_41))

section
variable (x0 x1 : Vec F S128x200 .f32) (x2 : Vec F S128x200 .i32) (x3 x4 x5 : Vec F S4x128 .f32) (x6 : Vec F S8x4096 .f32)
    (x7 : Vec F S1x4096 .f32) (x8 : Vec F S256x256 .f32) (x9 : Vec F S1x4096 .f32) (x10 x11 : Vec F S256x256 .f32)
    (x12 : Vec F S1x4096 .f32)

/-- The angles, as the certificate names them. -/
theorem angles_eq : k0_pay252 x0 x1 x2 x3 x4 x5 x6 x7 x8 x9 x10 x11 x12 = faces x0 x3 := rfl

/-- The band numbers spread over the lanes. -/
theorem bands_eq : k0_pay254 x0 x1 x2 x3 x4 x5 x6 x7 x8 x9 x10 x11 x12 = faces (sitofp .f32 x2) x5 := rfl

/-- The features. -/
theorem features_eq : k0_pay255 x0 x1 x2 x3 x4 x5 x6 x7 x8 x9 x10 x11 x12 = features (faces x0 x3) x6 := by
  unfold k0_pay255
  rw [angles_eq]
  rfl

/-- The hidden layer after its activation. -/
theorem activated_eq : k0_pay69 (k0_pay255 x0 x1 x2 x3 x4 x5 x6 x7 x8 x9 x10 x11 x12) (k0_pay256 x0 x1 x2 x3 x4 x5 x6 x7 x8 x9 x10 x11 x12)
      (k0_pay257 x0 x1 x2 x3 x4 x5 x6 x7 x8 x9 x10 x11 x12) (k0_pay258 x0 x1 x2 x3 x4 x5 x6 x7 x8 x9 x10 x11 x12) (View.ld x9 r0_41)
    = mulf (hidden (k0_pay255 x0 x1 x2 x3 x4 x5 x6 x7 x8 x9 x10 x11 x12) x8 x9)
        (logistic (hidden (k0_pay255 x0 x1 x2 x3 x4 x5 x6 x7 x8 x9 x10 x11 x12) x8 x9)) := rfl

/-- The time embedding without its bias. -/
theorem time_eq : k0_pay259 x0 x1 x2 x3 x4 x5 x6 x7 x8 x9 x10 x11 x12
    = tiles (mulf (hidden (features (faces x0 x3) x6) x8 x9) (logistic (hidden (features (faces x0 x3) x6) x8 x9))) x10 := by
  rw [← features_eq x0 x1 x2 x3 x4 x5 x6 x7 x8 x9 x10 x11 x12, ← activated_eq]
  rfl

/-- The band embedding. -/
theorem band_eq : k0_pay260 x0 x1 x2 x3 x4 x5 x6 x7 x8 x9 x10 x11 x12
    = tiles (indicator (faces (sitofp .f32 x2) x5) x7) x11 := by
  rw [← bands_eq x0 x1 x2 x3 x4 x5 x6 x7 x8 x9 x10 x11 x12]
  rfl

/-- The block's sum. -/
theorem acc_eq : k0_pay288 x0 x1 x2 x3 x4 x5 x6 x7 x8 x9 x10 x11 x12 = acc x0 x1 x2 x3 x4 x5 x6 x7 x8 x9 x10 x11 x12 := by
  unfold k0_pay288 acc
  rw [← time_eq x0 x1 x2 x3 x4 x5 x6 x7 x8 x9 x10 x11 x12, ← band_eq x0 x1 x2 x3 x4 x5 x6 x7 x8 x9 x10 x11 x12]
  generalize k0_pay259 x0 x1 x2 x3 x4 x5 x6 x7 x8 x9 x10 x11 x12 = te
  generalize k0_pay260 x0 x1 x2 x3 x4 x5 x6 x7 x8 x9 x10 x11 x12 = be
  rfl

end

/-- The lane that holds component `d` of the block's row `b`. -/
def lane (b : Fin 128) (d : Fin 32) : Fin 4096 := ⟨32 * b.val + d.val, by omega⟩

/-- Where a row of the block is stored: row `b`, lane `d` of it being lane `32 b + d` of the sum. -/
def stored (A : FVec F S200x4096 .f32) : Vec F S128x200x32 .f32 := fun j =>
  A (ValueIdx.ix2 (n0 := 200) (n1 := 4096) (j 1) (lane (j 0) (j 2)))

/-- One row's piece, cut out of the sum and stored, agrees with `stored`. -/
theorem row_piece (A : FVec F S200x4096 .f32) (b n : Nat) (hn : n = 32 * b) (v : FVec F S200x32 .f32)
    (h : S200x4096.Slices ![0, n] S200x32) (hv : v = extractStridedSlice S200x32 ![0, n] A h)
    (inb : ∀ a, (![b, 0, 0] : Fin 3 → Nat) a + S1x200x32.size a ≤ S128x200x32.size a) (x : S1x200x32.Idx) :
    shapeCast S1x200x32 v shapeCasts_S200x32_S1x200x32 x
      = stored A ((Rect.unit (s := S128x200x32) ![b, 0, 0] S1x200x32.size inb).emb x) := by
  subst hn hv
  have h0 : (x 0).val < 1 := (x 0).isLt
  rw [shapeCast_addUnit_apply ![200, 32] _ _ x]
  unfold stored
  refine extractStridedSlice_apply _ _ _ _ _ fun a => ?_
  match a with
  | ⟨0, _⟩ => show 0 + 1 * (x 1).val = 0 + (x 1).val; omega
  | ⟨1, _⟩ => show 32 * (b + 1 * (x 0).val) + (0 + 1 * (x 2).val) = 32 * b + (x 2).val; omega

/-- The block the body leaves: the sum, row by row. -/
theorem out_eq (x0 x1 : Vec F S128x200 .f32) (x2 : Vec F S128x200 .i32) (x3 x4 x5 : Vec F S4x128 .f32)
    (x6 : Vec F S8x4096 .f32) (x7 : Vec F S1x4096 .f32) (x8 : Vec F S256x256 .f32) (x9 : Vec F S1x4096 .f32)
    (x10 x11 : Vec F S256x256 .f32) (x12 : Vec F S1x4096 .f32) :
    out0_13 x0 x1 x2 x3 x4 x5 x6 x7 x8 x9 x10 x11 x12 = stored (acc x0 x1 x2 x3 x4 x5 x6 x7 x8 x9 x10 x11 x12) := by
  rw [← acc_eq]
  funext j
  refine View.canon_apply_of_pieces _ _ ?_ j (by apply cover0_13)
  simp only [List.forall_mem_cons]
  repeat' apply And.intro
  all_goals first
    | exact fun x => row_piece _ _ _ (by decide) _ _ rfl _ x
    | (intro x
       simp only [k0_pay109, k0_pay118, k0_pay126, k0_pay135, k0_pay143, k0_pay152, k0_pay160, k0_pay169, k0_pay177, k0_pay186, k0_pay194, k0_pay203, k0_pay211, k0_pay220, k0_pay228, k0_pay237, k0_pay245, k0_pay250]
       exact row_piece _ _ _ (by decide) _ _ rfl _ x)
    | exact fun p hp => absurd hp List.not_mem_nil

end Cert.KernelIdeal.Block

end
-- ==== Proof.Embed.lean ====
/-
  The embedding at one element of the sequence, over the extended reals: the common form to which the kernel and the
  reference are both brought.
-/
module

public import Idealize.ShloMosaic.Lib.ValueIdx
public import Idealize.ShloMosaic.PureOps.Ideal.Laws

@[expose] public section

noncomputable section

namespace Cert.Embed

open Idealize.ShloMosaic
open scoped BigOperators

/-- The value in Horner's form of a polynomial with five coefficients. -/
def horner (c4 c3 c2 c1 c0 y : EReal) : EReal := (((c4 * y + c3) * y + c2) * y + c1) * y + c0

/-- The number a float constant denotes. -/
abbrev lit (b : BitVec 32) : EReal := Ideal.ofBits .f32 b

/-- The sine's polynomial. -/
def sin9 (a : EReal) : EReal :=
  horner (lit 0x3638EF1D#32) (lit 0xB9500D01#32) (lit 0x3C088889#32) (lit 0xBE2AAAAB#32) (lit 0x3F800000#32) (a * a) * a

/-- The cosine's polynomial. -/
def cos8 (a : EReal) : EReal :=
  horner (lit 0x37D00D01#32) (lit 0xBAB60B61#32) (lit 0x3D2AAAAB#32) (lit 0xBF000000#32) (lit 0x3F800000#32) (a * a)

/-- The frequencies. -/
def freq (k : Fin 16) : EReal :=
  Ideal.exp (Ideal.div (lit 0xC1135D8E#32 * (((BitVec.ofNat 32 k.val).toInt : ℝ) : EReal)) (lit 0x41800000#32))

/-- The half a component belongs to is the sine's or the cosine's, and its frequency is the one of its place there. -/
def half (d : Fin 32) : Fin 16 := ⟨d.val % 16, Nat.mod_lt _ (by decide)⟩

/-- The sinusoidal features of one time, with `s` for the sine and `c` for the cosine. -/
def feature (s c : EReal → EReal) (t : EReal) (d : Fin 32) : EReal :=
  if d.val < 16 then s (t * freq (half d)) else c (t * freq (half d))

/-- The activation. -/
def silu (h : EReal) : EReal := h * Ideal.logistic h

/-- The two layers applied to the features, without the second bias. -/
def mlp (f : Fin 32 → EReal) (W1 : Fin 32 → Fin 32 → EReal) (b1 : Fin 32 → EReal) (W2 : Fin 32 → Fin 32 → EReal) (d : Fin 32) :
    EReal :=
  ∑ j : Fin 32, silu ((∑ k : Fin 32, f k * W1 k j) + b1 j) * W2 j d

/-- The embedding of one element: its brightness, time and band through the layers and the table. -/
def embed (s c : EReal → EReal) (flux time : EReal) (band : Fin 6) (tab : Fin 6 → Fin 32 → EReal) (fw fb : Fin 32 → EReal)
    (W1 : Fin 32 → Fin 32 → EReal) (b1 : Fin 32 → EReal) (W2 : Fin 32 → Fin 32 → EReal) (b2 : Fin 32 → EReal) (d : Fin 32) : EReal :=
  (flux * fw d + fb d) + (mlp (feature s c time) W1 b1 W2 d + b2 d) + tab band d

/-- The row of the table that a band's word names. -/
def bandOf (w : BitVec 32) : Fin 6 := ⟨w.toNat % 6, Nat.mod_lt _ (by decide)⟩

theorem bandOf_toInt (w : BitVec 32) (h0 : 0 ≤ w.toInt) (h6 : w.toInt < 6) : w.toInt = ((bandOf w).val : ℤ) := by
  have h := BitVec.toInt_eq_toNat_cond w
  have hw := w.isLt
  show w.toInt = ((w.toNat % 6 : ℕ) : ℤ)
  omega

theorem lit_one : lit 0x3F800000#32 = 1 := by
  simp [Ideal.ofBits, Ideal.ieee, -EReal.coe_mul]
  norm_num

theorem lit_zero : lit 0x00000000#32 = 0 := Ideal.ofBits_zero_f32

end Cert.Embed

end
-- ==== Proof.Spread.lean ====
/-
  The kernel's block read at an index, at the ideal values: the small products with a pattern spread a row over its 32
  lanes, the products with a block-diagonal weight multiply each row's 32 lanes by the small weight, and the rest works
  lane by lane.
-/
module

public import proofs.«01_k».proof.Proof.Block
public import Idealize.ShloMosaic.Lib.Pipeline.ValueKit.Tiles
public import Idealize.ShloMosaic.PureOps.Ideal.Laws
public import proofs.«01_k».proof.Proof.Embed

@[expose] public section

set_option maxRecDepth 16384

noncomputable section

namespace Cert.KernelIdeal.Block

open Idealize.ShloMosaic Idealize.ShloMosaic.TcCoe Idealize.ShloMosaic.ValueIdx
open Cert.KernelIdeal Cert.KernelIdeal.Gen Cert.Embed
open scoped BigOperators

/-! ## Spreading -/

theorem face_lhs_free (i : S200x128.Idx) (q : dot_S4x200_S4x128_S200x128_0_0_1_1_n_n.contr.Idx) : (dot_S4x200_S4x128_S200x128_0_0_1_1_n_n.lhsIdx i q 1).val = (i 0).val := by
  unfold DotDims.lhsIdx
  rw [dif_neg (show ¬(1 : Fin S4x200.rank) ∈ dot_S4x200_S4x128_S200x128_0_0_1_1_n_n.lhsBatch by decide), dif_pos (show (1 : Fin S4x200.rank) ∈ dot_S4x200_S4x128_S200x128_0_0_1_1_n_n.lhsNonContracting by decide)]
  rfl

theorem face_lhs (l : Fin 200) (n : Fin 128) (q : Fin 4) :
    dot_S4x200_S4x128_S200x128_0_0_1_1_n_n.lhsIdx (ix2 l n)
      ((contrEquiv1 dot_S4x200_S4x128_S200x128_0_0_1_1_n_n 4 rfl rfl).symm q) = ix2 q l := by
  funext a
  refine Fin.ext ?_
  match a with
  | ⟨0, _⟩ => exact (dot_S4x200_S4x128_S200x128_0_0_1_1_n_n.lhsIdx_val_of_single rfl _ _).trans (contrEquiv1_symm_val _ 4 rfl rfl q)
  | ⟨1, _⟩ => exact face_lhs_free _ _

theorem face_rhs_free (i : S200x128.Idx) (q : dot_S4x200_S4x128_S200x128_0_0_1_1_n_n.contr.Idx) : (dot_S4x200_S4x128_S200x128_0_0_1_1_n_n.rhsIdx i q 1).val = (i 1).val := by
  unfold DotDims.rhsIdx
  rw [dif_neg (show ¬(1 : Fin S4x128.rank) ∈ dot_S4x200_S4x128_S200x128_0_0_1_1_n_n.rhsBatch by decide), dif_pos (show (1 : Fin S4x128.rank) ∈ dot_S4x200_S4x128_S200x128_0_0_1_1_n_n.rhsNonContracting by decide)]
  rfl

theorem face_rhs (l : Fin 200) (n : Fin 128) (q : Fin 4) :
    dot_S4x200_S4x128_S200x128_0_0_1_1_n_n.rhsIdx (ix2 l n)
      ((contrEquiv1 dot_S4x200_S4x128_S200x128_0_0_1_1_n_n 4 rfl rfl).symm q) = ix2 q n := by
  funext a
  refine Fin.ext ?_
  match a with
  | ⟨0, _⟩ => exact (dot_S4x200_S4x128_S200x128_0_0_1_1_n_n.rhsIdx_val_of_single rfl _ _).trans (contrEquiv1_symm_val _ 4 rfl rfl q)
  | ⟨1, _⟩ => exact face_rhs_free _ _

/-- One group at an index: the sum over its four rows of the row times the pattern. -/
theorem face_apply (x : Vec Ideal S128x200 .f32) (pat : Vec Ideal S4x128 .f32) (g : Fin 32) (l : Fin 200) (n : Fin 128) :
    face x pat g (ix2 l n) = ∑ q : Fin 4, x (ix2 ⟨4 * g.val + q.val, by omega⟩ l) * pat (ix2 q n) := by
  unfold face matmul
  rw [Ideal.matmul_constant_zero_apply,
    ← Equiv.sum_comp (contrEquiv1 dot_S4x200_S4x128_S200x128_0_0_1_1_n_n 4 rfl rfl).symm]
  refine Finset.sum_congr rfl fun q _ => ?_
  rw [face_lhs, face_rhs]
  refine congrArg₂ (· * ·) (View.ld_unit_apply_of x _ _ _ _ _ fun a => ?_) ((congrFun (shapeCast_self (s := S4x128) _ _) _).trans (View.ld_unit_apply_of pat _ _ _ _ _ fun a => ?_))
  · match a with
    | ⟨0, _⟩ => rfl
    | ⟨1, _⟩ => exact (Nat.zero_add _).symm
  · match a with
    | ⟨0, _⟩ => exact (Nat.zero_add _).symm
    | ⟨1, _⟩ => exact (Nat.zero_add _).symm

/-- All groups at an index: with a pattern that is, lane by lane, a vector on the lanes of the row's own place in its
    group and zero on the others, lane `d` of row `b` is the row's element times component `d` of the vector. -/
theorem faces_apply (x : Vec Ideal S128x200 .f32) (pat : Vec Ideal S4x128 .f32) (v : Fin 32 → EReal)
    (hp : ∀ (q i : Fin 4) (d : Fin 32), pat (ix2 q ⟨32 * i.val + d.val, by omega⟩) = (if q = i then 1 else 0) * v d)
    (l : Fin 200) (b : Fin 128) (d : Fin 32) : faces x pat (ix2 l (lane b d)) = x (ix2 b l) * v d := by
  have hb := b.isLt
  have hd := d.isLt
  unfold faces
  rw [concatenate_ofFn_apply (t := S200x4096) (s₁ := S200x128) 1 _ _ rfl 128 rfl (ix2 l (lane b d)) ⟨b.val / 4, by omega⟩
    (show (32 * b.val + d.val) / 128 = b.val / 4 by omega)
    (ix2 l ⟨32 * (b.val % 4) + d.val, by omega⟩) (show 32 * (b.val % 4) + d.val = (32 * b.val + d.val) % 128 by omega)
    (fun a ha => by match a with | ⟨0, _⟩ => rfl | ⟨1, _⟩ => exact absurd rfl ha)]
  rw [face_apply, Finset.sum_eq_single ⟨b.val % 4, by omega⟩]
  · rw [hp ⟨b.val % 4, by omega⟩ ⟨b.val % 4, by omega⟩ d, if_pos rfl, one_mul]
    exact congrArg (fun r : Fin 128 => x (ix2 r l) * v d) (Fin.ext (show 4 * (b.val / 4) + b.val % 4 = b.val by omega))
  · intro q _ hq
    rw [hp q ⟨b.val % 4, by omega⟩ d, if_neg hq, zero_mul, mul_zero]
  · exact fun h => absurd (Finset.mem_univ _) h

/-! ## Multiplying by a block-diagonal weight -/

theorem tile_lhs_free (i : S200x256.Idx) (q : dot_S200x256_S256x256_S200x256_1_0_0_1_n_n.contr.Idx) : (dot_S200x256_S256x256_S200x256_1_0_0_1_n_n.lhsIdx i q 0).val = (i 0).val := by
  unfold DotDims.lhsIdx
  rw [dif_neg (show ¬(0 : Fin S200x256.rank) ∈ dot_S200x256_S256x256_S200x256_1_0_0_1_n_n.lhsBatch by decide), dif_pos (show (0 : Fin S200x256.rank) ∈ dot_S200x256_S256x256_S200x256_1_0_0_1_n_n.lhsNonContracting by decide)]
  rfl

theorem tile_lhs (l : Fin 200) (n r : Fin 256) :
    dot_S200x256_S256x256_S200x256_1_0_0_1_n_n.lhsIdx (ix2 l n)
      ((contrEquiv1 dot_S200x256_S256x256_S200x256_1_0_0_1_n_n 256 rfl rfl).symm r) = ix2 l r := by
  funext a
  refine Fin.ext ?_
  match a with
  | ⟨0, _⟩ => exact tile_lhs_free _ _
  | ⟨1, _⟩ => exact (dot_S200x256_S256x256_S200x256_1_0_0_1_n_n.lhsIdx_val_of_single rfl _ _).trans (contrEquiv1_symm_val _ 256 rfl rfl r)

theorem tile_rhs_free (i : S200x256.Idx) (q : dot_S200x256_S256x256_S200x256_1_0_0_1_n_n.contr.Idx) : (dot_S200x256_S256x256_S200x256_1_0_0_1_n_n.rhsIdx i q 1).val = (i 1).val := by
  unfold DotDims.rhsIdx
  rw [dif_neg (show ¬(1 : Fin S256x256.rank) ∈ dot_S200x256_S256x256_S200x256_1_0_0_1_n_n.rhsBatch by decide), dif_pos (show (1 : Fin S256x256.rank) ∈ dot_S200x256_S256x256_S200x256_1_0_0_1_n_n.rhsNonContracting by decide)]
  rfl

theorem tile_rhs (l : Fin 200) (n r : Fin 256) :
    dot_S200x256_S256x256_S200x256_1_0_0_1_n_n.rhsIdx (ix2 l n)
      ((contrEquiv1 dot_S200x256_S256x256_S200x256_1_0_0_1_n_n 256 rfl rfl).symm r) = ix2 r n := by
  funext a
  refine Fin.ext ?_
  match a with
  | ⟨0, _⟩ => exact (dot_S200x256_S256x256_S200x256_1_0_0_1_n_n.rhsIdx_val_of_single rfl _ _).trans (contrEquiv1_symm_val _ 256 rfl rfl r)
  | ⟨1, _⟩ => exact tile_rhs_free _ _

/-- One tile at an index: the sum over its 256 lanes. -/
theorem tile_apply (X : FVec Ideal S200x4096 .f32) (w : Vec Ideal S256x256 .f32) (k : Fin 16) (l : Fin 200) (n : Fin 256) :
    tile X w k (ix2 l n) = ∑ r : Fin 256, X (ix2 l ⟨256 * k.val + r.val, by omega⟩) * w (ix2 r n) := by
  unfold tile matmul
  rw [Ideal.matmul_constant_zero_apply,
    ← Equiv.sum_comp (contrEquiv1 dot_S200x256_S256x256_S200x256_1_0_0_1_n_n 256 rfl rfl).symm]
  refine Finset.sum_congr rfl fun r _ => ?_
  rw [tile_lhs, tile_rhs]
  refine congrArg₂ (· * ·) (extractStridedSlice_apply _ X _ _ _ fun a => ?_) ((congrFun (shapeCast_self (s := S256x256) _ _) _).trans (View.ld_unit_apply_of w _ _ _ _ _ fun a => ?_))
  · match a with
    | ⟨0, _⟩ => exact (Nat.zero_add _).symm
    | ⟨1, _⟩ => rfl
  · match a with
    | ⟨0, _⟩ => exact (Nat.zero_add _).symm
    | ⟨1, _⟩ => exact (Nat.zero_add _).symm

/-- A lane of a tile from its row's place in the tile and its component. -/
def place (i : Fin 8) (d : Fin 32) : Fin 256 := ⟨32 * i.val + d.val, by omega⟩

/-- The lanes of a tile are the pairs of a place and a component. -/
theorem sum_tile {M : Type*} [AddCommMonoid M] (f : Fin 256 → M) :
    ∑ r, f r = ∑ i : Fin 8, ∑ d : Fin 32, f (place i d) := by
  rw [← Equiv.sum_comp (finProdFinEquiv (m := 8) (n := 32)) f, Fintype.sum_prod_type]
  refine Finset.sum_congr rfl fun i _ => Finset.sum_congr rfl fun d _ => congrArg f (Fin.ext ?_)
  show d.val + 32 * i.val = 32 * i.val + d.val
  omega

/-- All tiles at an index: with a weight that is a small matrix on the diagonal blocks and zero off them, lane `d` of row
    `b` is the product of the row's 32 lanes with column `d` of the small matrix. -/
theorem tiles_apply (X : FVec Ideal S200x4096 .f32) (w : Vec Ideal S256x256 .f32) (W : Fin 32 → Fin 32 → EReal)
    (hw : ∀ (i j : Fin 8) (k d : Fin 32), w (ix2 (place i k) (place j d)) = (if i = j then 1 else 0) * W k d)
    (l : Fin 200) (b : Fin 128) (d : Fin 32) :
    tiles X w (ix2 l (lane b d)) = ∑ k : Fin 32, X (ix2 l (lane b k)) * W k d := by
  have hb := b.isLt
  have hd := d.isLt
  unfold tiles
  rw [concatenate_ofFn_apply (t := S200x4096) (s₁ := S200x256) 1 _ _ rfl 256 rfl (ix2 l (lane b d)) ⟨b.val / 8, by omega⟩
    (show (32 * b.val + d.val) / 256 = b.val / 8 by omega)
    (ix2 l (place ⟨b.val % 8, by omega⟩ d)) (show 32 * (b.val % 8) + d.val = (32 * b.val + d.val) % 256 by omega)
    (fun a ha => by match a with | ⟨0, _⟩ => rfl | ⟨1, _⟩ => exact absurd rfl ha)]
  rw [tile_apply, sum_tile, Finset.sum_eq_single ⟨b.val % 8, by omega⟩]
  · refine Finset.sum_congr rfl fun k _ => ?_
    rw [hw, if_pos rfl, one_mul]
    exact congrArg (fun r : Fin 4096 => X (ix2 l r) * W k d)
      (Fin.ext (show 256 * (b.val / 8) + (32 * (b.val % 8) + k.val) = 32 * b.val + k.val by omega))
  · intro i _ hi
    refine Finset.sum_eq_zero fun k _ => ?_
    rw [hw, if_neg hi, zero_mul, mul_zero]
  · exact fun h => absurd (Finset.mem_univ _) h

/-! ## Lane by lane -/

/-- A row of lanes at an index. -/
theorem lanes_apply {F : FTy → Type} [FloatOps F] (v : Vec F S1x4096 .f32) (l : Fin 200) (n : Fin 4096) :
    lanes v (ix2 l n) = v (ix2 0 n) := by
  unfold lanes
  rw [shapeCast_self]
  refine broadcastTo_apply v _ _ _ fun a => ?_
  match a with
  | ⟨0, _⟩ => rfl
  | ⟨1, _⟩ => rfl

theorem ld_row (x : Vec Ideal S1x4096 .f32) (n : Fin 4096) : View.ld x r0_41 (ix2 0 n) = x (ix2 0 n) :=
  View.ld_unit_apply_of x _ _ _ _ _ fun a => by
    match a with
    | ⟨0, _⟩ => rfl
    | ⟨1, _⟩ => exact (Nat.zero_add _).symm

theorem ld_coef (x : Vec Ideal S8x4096 .f32) (r : Fin 8) (inb : ∀ a, (![r.val, 0] : Fin 2 → Nat) a + S1x4096.size a ≤ S8x4096.size a)
    (n : Fin 4096) : View.ld x (Rect.unit (s := S8x4096) ![r.val, 0] S1x4096.size inb) (ix2 0 n) = x (ix2 r n) :=
  View.ld_unit_apply_of x _ _ _ _ _ fun a => by
    match a with
    | ⟨0, _⟩ => rfl
    | ⟨1, _⟩ => exact (Nat.zero_add _).symm

/-- The features at an index. -/
theorem features_apply (y : FVec Ideal S200x4096 .f32) (coef : Vec Ideal S8x4096 .f32) (l : Fin 200) (n : Fin 4096) :
    features y coef (ix2 l n)
      = horner (coef (ix2 4 n)) (coef (ix2 3 n)) (coef (ix2 2 n)) (coef (ix2 1 n)) (coef (ix2 0 n)) (y (ix2 l n) * y (ix2 l n))
        * (coef (ix2 5 n) * y (ix2 l n) + coef (ix2 6 n)) := by
  unfold features horner
  simp only [mulf_apply, addf_apply, lanes_apply]
  have h := fun (r : Fin 8) inb => ld_coef coef r inb n
  rw [show View.ld coef r0_33 (ix2 0 n) = coef (ix2 4 n) from h 4 _, show View.ld coef r0_34 (ix2 0 n) = coef (ix2 3 n) from h 3 _,
    show View.ld coef r0_35 (ix2 0 n) = coef (ix2 2 n) from h 2 _, show View.ld coef r0_36 (ix2 0 n) = coef (ix2 1 n) from h 1 _,
    show View.ld coef r0_37 (ix2 0 n) = coef (ix2 0 n) from h 0 _, show View.ld coef r0_38 (ix2 0 n) = coef (ix2 5 n) from h 5 _,
    show View.ld coef r0_39 (ix2 0 n) = coef (ix2 6 n) from h 6 _]

end Cert.KernelIdeal.Block

end
-- ==== Proof.Lanes.lean ====
/-
  The kernel's sum at a lane, at the ideal values: given what the operands hold lane by lane, it is the embedding.
-/
module

public import proofs.«01_k».proof.Proof.Spread

@[expose] public section

set_option maxRecDepth 16384

noncomputable section

namespace Cert.KernelIdeal.Block

open Idealize.ShloMosaic Idealize.ShloMosaic.TcCoe Idealize.ShloMosaic.ValueIdx
open Cert.KernelIdeal Cert.KernelIdeal.Gen Cert.Embed
open scoped BigOperators

/-- The coefficient the kernel keeps in row `r` for component `d`. -/
def coefAt (r : Fin 8) (d : Fin 32) : EReal :=
  match r with
  | 0 => if d.val < 16 then lit 0x3F800000#32 else lit 0x3F800000#32
  | 1 => if d.val < 16 then lit 0xBE2AAAAB#32 else lit 0xBF000000#32
  | 2 => if d.val < 16 then lit 0x3C088889#32 else lit 0x3D2AAAAB#32
  | 3 => if d.val < 16 then lit 0xB9500D01#32 else lit 0xBAB60B61#32
  | 4 => if d.val < 16 then lit 0x3638EF1D#32 else lit 0x37D00D01#32
  | 5 => if d.val < 16 then lit 0x3F800000#32 else lit 0x00000000#32
  | 6 => lit 0x3F800000#32 - (if d.val < 16 then lit 0x3F800000#32 else lit 0x00000000#32)
  | 7 => lit 0x00000000#32

/-- The features at a lane: the sine's polynomial on the lower half of the components, the cosine's on the upper. -/
theorem features_lane (y : FVec Ideal S200x4096 .f32) (coef : Vec Ideal S8x4096 .f32)
    (hc : ∀ (r : Fin 8) (b : Fin 128) (d : Fin 32), coef (ix2 r (lane b d)) = coefAt r d) (l : Fin 200) (b : Fin 128) (d : Fin 32) :
    features y coef (ix2 l (lane b d)) = if d.val < 16 then sin9 (y (ix2 l (lane b d))) else cos8 (y (ix2 l (lane b d))) := by
  rw [features_apply]
  simp only [hc, coefAt]
  generalize y (ix2 l (lane b d)) = a
  by_cases h : d.val < 16
  · simp only [if_pos h, lit_one]
    have e : (1 : EReal) - 1 = 0 := by
      rw [← EReal.coe_one, ← EReal.coe_sub, sub_self]; rfl
    rw [e, one_mul, add_zero]
    simp only [sin9, lit_one]
  · simp only [if_neg h, lit_one, lit_zero]
    rw [zero_mul, zero_add, sub_zero, mul_one]
    simp only [cos8, lit_one]

/-- The comparison of two integers, carried through the floats, is their equality. -/
theorem indicator_int (z w : ℤ) :
    (FloatOps.sitofp (F := Ideal) .f32 ((FloatOps.cmpf (F := Ideal) (φ := .f32) .oeq (((z : ℝ) : EReal)) (((w : ℝ) : EReal))).setWidth 32))
      = if z = w then 1 else 0 := by
  show ((((Ideal.cmp .oeq ((z : ℝ) : EReal) ((w : ℝ) : EReal)).setWidth 32).toInt : ℝ) : EReal) = _
  by_cases h : z = w
  · subst h
    simp [Ideal.cmp]
  · have : ¬ (((z : ℝ) : EReal) = ((w : ℝ) : EReal)) := by simpa using h
    simp [Ideal.cmp, h, this]

/-- The sum at a lane. -/
theorem acc_lane (x0 x1 : Vec Ideal S128x200 .f32) (x2 : Vec Ideal S128x200 .i32) (x3 x4 x5 : Vec Ideal S4x128 .f32)
    (x6 : Vec Ideal S8x4096 .f32) (x7 : Vec Ideal S1x4096 .f32) (x8 : Vec Ideal S256x256 .f32) (x9 : Vec Ideal S1x4096 .f32)
    (x10 x11 : Vec Ideal S256x256 .f32) (x12 : Vec Ideal S1x4096 .f32)
    (fw b1 bias : Fin 32 → EReal) (W1 W2 T : Fin 32 → Fin 32 → EReal)
    (h3 : ∀ (q i : Fin 4) (d : Fin 32), x3 (ix2 q ⟨32 * i.val + d.val, by omega⟩) = (if q = i then 1 else 0) * freq (half d))
    (h4 : ∀ (q i : Fin 4) (d : Fin 32), x4 (ix2 q ⟨32 * i.val + d.val, by omega⟩) = (if q = i then 1 else 0) * fw d)
    (h5 : ∀ (q i : Fin 4) (d : Fin 32), x5 (ix2 q ⟨32 * i.val + d.val, by omega⟩) = (if q = i then 1 else 0) * 1)
    (h6 : ∀ (r : Fin 8) (b : Fin 128) (d : Fin 32), x6 (ix2 r (lane b d)) = coefAt r d)
    (h7 : ∀ (b : Fin 128) (d : Fin 32), x7 (ix2 0 (lane b d)) = (((d.val : ℤ) : ℝ) : EReal))
    (h8 : ∀ (i j : Fin 8) (k d : Fin 32), x8 (ix2 (place i k) (place j d)) = (if i = j then 1 else 0) * W1 k d)
    (h9 : ∀ (b : Fin 128) (d : Fin 32), x9 (ix2 0 (lane b d)) = b1 d)
    (h10 : ∀ (i j : Fin 8) (k d : Fin 32), x10 (ix2 (place i k) (place j d)) = (if i = j then 1 else 0) * W2 k d)
    (h11 : ∀ (i j : Fin 8) (k d : Fin 32), x11 (ix2 (place i k) (place j d)) = (if i = j then 1 else 0) * T k d)
    (h12 : ∀ (b : Fin 128) (d : Fin 32), x12 (ix2 0 (lane b d)) = bias d)
    (l : Fin 200) (b : Fin 128) (d : Fin 32) (e : Fin 32) (he : (x2 (ix2 b l)).toInt = (e.val : ℤ)) :
    acc x0 x1 x2 x3 x4 x5 x6 x7 x8 x9 x10 x11 x12 (ix2 l (lane b d))
      = mlp (feature sin9 cos8 (x0 (ix2 b l))) W1 b1 W2 d + T e d + x1 (ix2 b l) * fw d + bias d := by
  unfold acc
  simp only [addf_apply]
  rw [faces_apply x1 x4 fw h4, lanes_apply, ld_row, h12, tiles_apply _ x10 W2 h10, tiles_apply _ x11 T h11]
  have hfeat : ∀ k : Fin 32, features (faces x0 x3) x6 (ix2 l (lane b k)) = feature sin9 cos8 (x0 (ix2 b l)) k := fun k => by
    rw [features_lane _ _ h6, faces_apply x0 x3 _ h3]
    rfl
  have hhid : ∀ j : Fin 32, hidden (features (faces x0 x3) x6) x8 x9 (ix2 l (lane b j))
      = (∑ k : Fin 32, feature sin9 cos8 (x0 (ix2 b l)) k * W1 k j) + b1 j := fun j => by
    unfold hidden
    rw [addf_apply, lanes_apply, ld_row, h9, tiles_apply _ x8 W1 h8]
    exact congrArg (· + b1 j) (Finset.sum_congr rfl fun k _ => by rw [hfeat k])
  have hind : ∀ k : Fin 32, indicator (faces (sitofp .f32 x2) x5) x7 (ix2 l (lane b k)) = if e = k then 1 else 0 := fun k => by
    have hb : faces (sitofp (F := Ideal) .f32 x2) x5 (ix2 l (lane b k)) = (((e.val : ℤ) : ℝ) : EReal) := by
      rw [faces_apply _ x5 (fun _ => 1) h5, mul_one, ← he]
      rfl
    have hk : lanes (View.ld x7 r0_41) (ix2 l (lane b k)) = (((k.val : ℤ) : ℝ) : EReal) := by
      rw [lanes_apply, ld_row, h7]
    show (FloatOps.sitofp (F := Ideal) .f32 ((FloatOps.cmpf (F := Ideal) (φ := .f32) .oeq (faces (sitofp (F := Ideal) .f32 x2) x5 (ix2 l (lane b k)))
      (lanes (View.ld x7 r0_41) (ix2 l (lane b k)))).setWidth 32)) = _
    rw [hb, hk, indicator_int]
    exact if_congr ⟨fun h => Fin.ext (by exact_mod_cast h), fun h => by rw [h]⟩ rfl rfl
  have hte : ∀ j : Fin 32, mulf (hidden (features (faces x0 x3) x6) x8 x9) (logistic (hidden (features (faces x0 x3) x6) x8 x9)) (ix2 l (lane b j))
      = silu ((∑ k : Fin 32, feature sin9 cos8 (x0 (ix2 b l)) k * W1 k j) + b1 j) := fun j => by
    rw [mulf_apply, hhid j]
    show _ * Ideal.logistic _ = _
    rw [hhid j]
    rfl
  have e1 : (∑ k : Fin 32, indicator (faces (sitofp .f32 x2) x5) x7 (ix2 l (lane b k)) * T k d) = T e d := by
    rw [Finset.sum_eq_single e]
    · rw [hind, if_pos rfl, one_mul]
    · intro k _ hk
      rw [hind, if_neg (Ne.symm hk), zero_mul]
    · exact fun h => absurd (Finset.mem_univ _) h
  rw [e1]
  refine congrArg (fun z => z + T e d + x1 (ix2 b l) * fw d + bias d) ?_
  exact Finset.sum_congr rfl fun j _ => by rw [hte j]

end Cert.KernelIdeal.Block

end
-- ==== Proof.Host.lean ====
/-
  The arrays the program computes before the launch, as functions of its arguments.
-/
module

public import proofs.«01_k».proof.Proof.Lanes
public import Idealize.ShloMosaic.Lib.StableHlo.RunRead

@[expose] public section

set_option maxRecDepth 16384

noncomputable section

namespace Cert.KernelIdeal.Host

open Idealize.ShloMosaic Idealize.ShloMosaic.TcCoe Idealize.ShloMosaic.ValueIdx
open Cert.KernelIdeal Cert.KernelIdeal.Gen Cert.Embed

/-- The identity matrix of four rows. -/
def eye4 : FVec Ideal S4x4 .f32 :=
  uitofp .f32 (cmpi .eq (addi (iotaInDim S4x4 32 0) (broadcastInDim S4x4 ![] bcast_S_S4x4 (constantI S_ 32 0#32))) (iotaInDim S4x4 32 1))

/-- The identity matrix of eight rows. -/
def eye8 : FVec Ideal S8x8 .f32 :=
  uitofp .f32 (cmpi .eq (addi (iotaInDim S8x8 32 0) (broadcastInDim S8x8 ![] bcast_S_S8x8 (constantI S_ 32 0#32))) (iotaInDim S8x8 32 1))

/-- A row of components on the diagonal blocks of a matrix of four rows. -/
def diagRow (v : FVec Ideal S32 .f32) : FVec Ideal S4x128 .f32 :=
  shapeCast S4x128 (mulf
    (broadcastInDim S4x4x32 ![0, 1, 2] bcast_S4x4x1_S4x4x32_0_1_2 (broadcastInDim S4x4x1 ![0, 1] bcast_S4x4_S4x4x1_0_1 eye4))
    (broadcastInDim S4x4x32 ![0, 1, 2] bcast_S1x1x32_S4x4x32_0_1_2 (broadcastInDim S1x1x32 ![2] bcast_S32_S1x1x32_2 v)))
    shapeCasts_S4x4x32_S4x128

/-- A square of components on the diagonal blocks of a matrix of eight by eight blocks. -/
def diagMat (w : FVec Ideal S32x32 .f32) : FVec Ideal S256x256 .f32 :=
  shapeCast S256x256 (mulf
    (broadcastInDim S8x32x8x32 ![0, 1, 2, 3] bcast_S8x1x8x1_S8x32x8x32_0_1_2_3 (broadcastInDim S8x1x8x1 ![0, 2] bcast_S8x8_S8x1x8x1_0_2 eye8))
    (broadcastInDim S8x32x8x32 ![0, 1, 2, 3] bcast_S1x32x1x32_S8x32x8x32_0_1_2_3 (broadcastInDim S1x32x1x32 ![1, 3] bcast_S32x32_S1x32x1x32_1_3 w)))
    shapeCasts_S8x32x8x32_S256x256

/-- A row of components once for every row of a block. -/
def tiled (v : FVec Ideal S32 .f32) : FVec Ideal S4096 .f32 :=
  shapeCast S4096 (broadcastInDim S128x32 ![0, 1] bcast_S1x32_S128x32_0_1 (shapeCast S1x32 v shapeCasts_S32_S1x32)) shapeCasts_S128x32_S4096

/-- The same as a matrix of one row. -/
def asRow (v : FVec Ideal S4096 .f32) : FVec Ideal S1x4096 .f32 := broadcastInDim S1x4096 ![1] bcast_S4096_S1x4096_1 v

/-- Two rows of sixteen, one behind the other. -/
def joined (a b : FVec Ideal S16 .f32) : FVec Ideal S32 .f32 := concatenate S32 0 [⟨S16, a⟩, ⟨S16, b⟩] concatenates_S16_S16_S32_d0

/-- A constant on the sine's half of the components and one on the cosine's. -/
def halves (a b : BitVec 32) : FVec Ideal S32 .f32 :=
  joined (broadcastInDim S16 ![] bcast_S_S16 (constant S_ .f32 a)) (broadcastInDim S16 ![] bcast_S_S16 (constant S_ .f32 b))

/-- The frequencies as the program computes them. -/
def freqs : FVec Ideal S16 .f32 :=
  Idealize.ShloMosaic.Host.exp (Idealize.ShloMosaic.Host.divf (mulf (broadcastInDim S16 ![] bcast_S_S16 (constant S_ .f32 0xC1135D8E#32)) (sitofp .f32 (iotaInDim S16 32 0)))
    (broadcastInDim S16 ![] bcast_S_S16 (constant S_ .f32 0x41800000#32)))

/-- The eight rows of coefficients. -/
def coefs : FVec Ideal S8x4096 .f32 :=
  concatenate S8x4096 0 [⟨S1x4096, asRow (tiled (halves 0x3F800000#32 0x3F800000#32))⟩,
    ⟨S1x4096, asRow (tiled (halves 0xBE2AAAAB#32 0xBF000000#32))⟩, ⟨S1x4096, asRow (tiled (halves 0x3C088889#32 0x3D2AAAAB#32))⟩,
    ⟨S1x4096, asRow (tiled (halves 0xB9500D01#32 0xBAB60B61#32))⟩, ⟨S1x4096, asRow (tiled (halves 0x3638EF1D#32 0x37D00D01#32))⟩,
    ⟨S1x4096, asRow (tiled (halves 0x3F800000#32 0x00000000#32))⟩,
    ⟨S1x4096, asRow (subf (broadcastInDim S4096 ![] bcast_S_S4096 (constant S_ .f32 0x3F800000#32)) (tiled (halves 0x3F800000#32 0x00000000#32)))⟩,
    ⟨S1x4096, asRow (broadcastInDim S4096 ![] bcast_S_S4096 (constant S_ .f32 0x00000000#32))⟩]
    concatenates_S1x4096_S1x4096_S1x4096_S1x4096_S1x4096_S1x4096_S1x4096_S1x4096_S8x4096_d0

/-- The band table with rows of zeros below it. -/
def padded (tab : FVec Ideal S6x32 .f32) : FVec Ideal S32x32 .f32 :=
  Idealize.ShloMosaic.Host.scatter scatter_S32x32_S1_S6x32_01_n_0_0 (fun _ b => b)
    (broadcastInDim S32x32 ![] bcast_S_S32x32 (constant S_ .f32 0x00000000#32)) (broadcastInDim S1 ![] bcast_S_S1 (constantI S_ 32 0#32)) tab

variable (m : (ℓ : Loc nD τ sig) → Buf (Elt Ideal) ℓ) (c : Dev nD)

/-- What an argument holds before the run. -/
abbrev arg0 : Vec Ideal S16384x200 .f32 := m (c, Proc.devRef .tc main_arg0)
@[inherit_doc arg0] abbrev arg1 : Vec Ideal S16384x200 .f32 := m (c, Proc.devRef .tc main_arg1)
@[inherit_doc arg0] abbrev arg2 : Vec Ideal S16384x200 .i32 := m (c, Proc.devRef .tc main_arg2)
@[inherit_doc arg0] abbrev arg3 : Vec Ideal S6x32 .f32 := m (c, Proc.devRef .tc main_arg3)
@[inherit_doc arg0] abbrev arg4 : Vec Ideal S32x1 .f32 := m (c, Proc.devRef .tc main_arg4)
@[inherit_doc arg0] abbrev arg5 : Vec Ideal S32 .f32 := m (c, Proc.devRef .tc main_arg5)
@[inherit_doc arg0] abbrev arg6 : Vec Ideal S32x32 .f32 := m (c, Proc.devRef .tc main_arg6)
@[inherit_doc arg0] abbrev arg7 : Vec Ideal S32 .f32 := m (c, Proc.devRef .tc main_arg7)
@[inherit_doc arg0] abbrev arg8 : Vec Ideal S32x32 .f32 := m (c, Proc.devRef .tc main_arg8)
@[inherit_doc arg0] abbrev arg9 : Vec Ideal S32 .f32 := m (c, Proc.devRef .tc main_arg9)

theorem read_freq : (V m c main_call0_v18 : FVec Ideal S4x128 .f32) = diagRow (joined freqs freqs) := by
  unfold_abbrev_sides; after_reads_simp; rfl

theorem read_flux : (V m c main_call0_v25 : FVec Ideal S4x128 .f32) = diagRow (shapeCast S32 (arg4 m c) shapeCasts_S32x1_S32) := by
  unfold_abbrev_sides; after_reads_simp; rfl

theorem read_ones : (V m c main_call0_v32 : FVec Ideal S4x128 .f32)
    = diagRow (broadcastInDim S32 ![] bcast_S_S32 (constant S_ .f32 0x3F800000#32)) := by
  unfold_abbrev_sides; after_reads_simp; rfl

set_option maxHeartbeats 4000000 in
theorem read_coefs : (V m c main_call0_v80 : FVec Ideal S8x4096 .f32) = coefs := by
  unfold_abbrev_sides; after_reads_simp; rfl

theorem read_bands : (V m c main_call0_v85 : FVec Ideal S1x4096 .f32) = asRow (tiled (sitofp .f32 (iotaInDim S32 32 0))) := by
  unfold_abbrev_sides; after_reads_simp; rfl

theorem read_first : (V m c main_call0_v97 : FVec Ideal S256x256 .f32) = diagMat (arg6 m c) := by
  unfold_abbrev_sides; after_reads_simp; rfl

theorem read_firstBias : (V m c main_call0_v116 : FVec Ideal S1x4096 .f32) = asRow (tiled (arg7 m c)) := by
  unfold_abbrev_sides; after_reads_simp; rfl

theorem read_second : (V m c main_call0_v103 : FVec Ideal S256x256 .f32) = diagMat (arg8 m c) := by
  unfold_abbrev_sides; after_reads_simp; rfl

set_option maxHeartbeats 4000000 in
theorem read_table : (V m c main_call0_v112 : FVec Ideal S256x256 .f32) = diagMat (padded (arg3 m c)) := by
  unfold_abbrev_sides; after_reads_simp; rfl

theorem read_bias : (V m c main_call0_v121 : FVec Ideal S1x4096 .f32) = asRow (tiled (addf (arg9 m c) (arg5 m c))) := by
  unfold_abbrev_sides; after_reads_simp; rfl

end Cert.KernelIdeal.Host

end
-- ==== Proof.HostAt.lean ====
/-
  The arrays of `Host`, read at an index.
-/
module

public import proofs.«01_k».proof.Proof.Host
public import Idealize.ShloMosaic.Lib.Routing.OpsSet
public import Idealize.ShloMosaic.Lib.Routing.OpsPair

@[expose] public section

set_option maxRecDepth 16384

noncomputable section

namespace Cert.KernelIdeal.Host

open Idealize.ShloMosaic Idealize.ShloMosaic.TcCoe Idealize.ShloMosaic.ValueIdx
open Cert.KernelIdeal Cert.KernelIdeal.Gen Cert.Embed Cert.KernelIdeal.Block

/-- A comparison bit that says whether two places are the same, as a number. -/
theorem bit_apply {n : Nat} (f : BitVec 1) (i j : Fin n) (h : f.toNat = if i = j then 1 else 0) :
    (((f.toNat : ℝ) : EReal)) = if i = j then 1 else 0 := by
  rw [h]
  by_cases e : i = j
  · simp [e]
  · simp [e]

theorem eye4_bits (q i : Fin 4) : (IntOp.cmpi .eq (IntOp.addi (BitVec.ofNat 32 q.val) 0#32) (BitVec.ofNat 32 i.val)).toNat = if q = i then 1 else 0 := by
  revert q i; decide

theorem eye8_bits (q i : Fin 8) : (IntOp.cmpi .eq (IntOp.addi (BitVec.ofNat 32 q.val) 0#32) (BitVec.ofNat 32 i.val)).toNat = if q = i then 1 else 0 := by
  revert q i; decide

theorem eye4_apply (q i : Fin 4) : eye4 (ix2 q i) = if q = i then 1 else 0 :=
  bit_apply _ q i (eye4_bits q i)

theorem eye8_apply (q i : Fin 8) : eye8 (ix2 q i) = if q = i then 1 else 0 :=
  bit_apply _ q i (eye8_bits q i)

/-- The diagonal blocks of four rows hold the row of components, the other blocks zero. -/
theorem diagRow_apply (v : FVec Ideal S32 .f32) (q i : Fin 4) (d : Fin 32) :
    diagRow v (ix2 q ⟨32 * i.val + d.val, by omega⟩) = (if q = i then 1 else 0) * v (ix1 d) := by
  unfold diagRow
  rw [shapeCast_apply _ _ _ (ix3 q i d) (by
    rw [Shape.rowMajor_val_three, Shape.rowMajor_val_two]
    show (q.val * 4 + i.val) * 32 + d.val = q.val * 128 + (32 * i.val + d.val)
    omega), mulf_apply]
  rw [broadcastInDim_apply _ _ _ (ix3 q i d) (ix3 q i 0) (fun a => by match a with | ⟨0, _⟩ => rfl | ⟨1, _⟩ => rfl | ⟨2, _⟩ => rfl),
    broadcastInDim_apply _ _ _ (ix3 q i 0) (ix2 q i) (fun a => by match a with | ⟨0, _⟩ => rfl | ⟨1, _⟩ => rfl),
    broadcastInDim_apply _ _ _ (ix3 q i d) (ix3 0 0 d) (fun a => by match a with | ⟨0, _⟩ => rfl | ⟨1, _⟩ => rfl | ⟨2, _⟩ => rfl),
    broadcastInDim_apply _ _ _ (ix3 0 0 d) (ix1 d) (fun a => by match a with | ⟨0, _⟩ => rfl), eye4_apply]

/-- The diagonal blocks hold the square of components, the other blocks zero. -/
theorem diagMat_apply (w : FVec Ideal S32x32 .f32) (i j : Fin 8) (k d : Fin 32) :
    diagMat w (ix2 (place i k) (place j d)) = (if i = j then 1 else 0) * w (ix2 k d) := by
  unfold diagMat
  rw [shapeCast_apply _ _ _ (ix4 i k j d) (by
    rw [Shape.rowMajor_val_four, Shape.rowMajor_val_two]
    show ((i.val * 32 + k.val) * 8 + j.val) * 32 + d.val = (32 * i.val + k.val) * 256 + (32 * j.val + d.val)
    omega), mulf_apply]
  rw [broadcastInDim_apply _ _ _ (ix4 i k j d) (ix4 i 0 j 0) (fun a => by match a with | ⟨0, _⟩ => rfl | ⟨1, _⟩ => rfl | ⟨2, _⟩ => rfl | ⟨3, _⟩ => rfl),
    broadcastInDim_apply _ _ _ (ix4 i 0 j 0) (ix2 i j) (fun a => by match a with | ⟨0, _⟩ => rfl | ⟨1, _⟩ => rfl),
    broadcastInDim_apply _ _ _ (ix4 i k j d) (ix4 0 k 0 d) (fun a => by match a with | ⟨0, _⟩ => rfl | ⟨1, _⟩ => rfl | ⟨2, _⟩ => rfl | ⟨3, _⟩ => rfl),
    broadcastInDim_apply _ _ _ (ix4 0 k 0 d) (ix2 k d) (fun a => by match a with | ⟨0, _⟩ => rfl | ⟨1, _⟩ => rfl), eye8_apply]

/-- Every row of a block holds the row of components. -/
theorem tiled_apply (v : FVec Ideal S32 .f32) (b : Fin 128) (d : Fin 32) : tiled v (ix1 (lane b d)) = v (ix1 d) := by
  unfold tiled
  rw [shapeCast_apply _ _ _ (ix2 b d) (by
    rw [Shape.rowMajor_val_two, Shape.rowMajor_val_one]
    show b.val * 32 + d.val = 32 * b.val + d.val
    omega),
    broadcastInDim_apply _ _ _ (ix2 b d) (ix2 0 d) (fun a => by match a with | ⟨0, _⟩ => rfl | ⟨1, _⟩ => rfl),
    shapeCast_apply _ _ _ (ix1 d) (by
    rw [Shape.rowMajor_val_two, Shape.rowMajor_val_one]
    show d.val = 0 * 32 + d.val
    omega)]

theorem asRow_apply (v : FVec Ideal S4096 .f32) (z : Fin 1) (n : Fin 4096) : asRow v (ix2 z n) = v (ix1 n) := by
  unfold asRow
  rw [broadcastInDim_apply _ _ _ (ix2 z n) (ix1 n) (fun a => by match a with | ⟨0, _⟩ => rfl)]

/-- One row of sixteen behind another. -/
theorem joined_apply (a b : FVec Ideal S16 .f32) (d : Fin 32) :
    joined a b (ix1 d) = if d.val < 16 then a (ix1 (half d)) else b (ix1 (half d)) := by
  unfold joined
  by_cases h : d.val < 16
  · rw [if_pos h]
    refine concatenate_pair_apply_left (t := S32) (s₁ := S16) (s₂ := S16) 0 a b _ (ix1 d) rfl (ix1 (half d)) fun e => ?_
    match e with | ⟨0, _⟩ => exact Nat.mod_eq_of_lt h
  · rw [if_neg h]
    refine concatenate_pair_apply_right (t := S32) (s₁ := S16) (s₂ := S16) 0 a b _ (ix1 d) rfl rfl (ix1 (half d)) (fun e he => ?_) ?_
    · match e with | ⟨0, _⟩ => exact absurd rfl he
    · show d.val % 16 + 16 = d.val
      omega

theorem halves_apply (a b : BitVec 32) (d : Fin 32) : halves a b (ix1 d) = if d.val < 16 then lit a else lit b :=
  joined_apply _ _ d

theorem freqs_apply (k : Fin 16) : freqs (ix1 k) = freq k := rfl

/-- The frequencies, once for the sine and once for the cosine. -/
theorem joined_freqs_apply (d : Fin 32) : joined freqs freqs (ix1 d) = freq (half d) := by
  rw [joined_apply, ite_self, freqs_apply]

/-- The rows of coefficients one by one. -/
def coefRow (r : Fin 8) : FVec Ideal S1x4096 .f32 :=
  match r with
  | 0 => asRow (tiled (halves 0x3F800000#32 0x3F800000#32))
  | 1 => asRow (tiled (halves 0xBE2AAAAB#32 0xBF000000#32))
  | 2 => asRow (tiled (halves 0x3C088889#32 0x3D2AAAAB#32))
  | 3 => asRow (tiled (halves 0xB9500D01#32 0xBAB60B61#32))
  | 4 => asRow (tiled (halves 0x3638EF1D#32 0x37D00D01#32))
  | 5 => asRow (tiled (halves 0x3F800000#32 0x00000000#32))
  | 6 => asRow (subf (broadcastInDim S4096 ![] bcast_S_S4096 (constant S_ .f32 0x3F800000#32)) (tiled (halves 0x3F800000#32 0x00000000#32)))
  | 7 => asRow (broadcastInDim S4096 ![] bcast_S_S4096 (constant S_ .f32 0x00000000#32))

theorem coefs_apply (r : Fin 8) (b : Fin 128) (d : Fin 32) : coefs (ix2 r (lane b d)) = coefAt r d := by
  have hrow : coefs (ix2 r (lane b d)) = coefRow r (ix2 0 (lane b d)) :=
    concatenate_ofFn_apply (t := S8x4096) (s₁ := S1x4096) 0 coefRow
      concatenates_S1x4096_S1x4096_S1x4096_S1x4096_S1x4096_S1x4096_S1x4096_S1x4096_S8x4096_d0 rfl 1 rfl (ix2 r (lane b d)) r
      (Nat.div_one _) (ix2 0 (lane b d)) (Nat.mod_one _).symm
      (fun a ha => by match a with | ⟨0, _⟩ => exact absurd rfl ha | ⟨1, _⟩ => rfl)
  rw [hrow]
  match r with
  | 0 | 1 | 2 | 3 | 4 | 5 => exact (asRow_apply _ _ _).trans ((tiled_apply _ _ _).trans (halves_apply _ _ _))
  | 6 => exact (asRow_apply _ _ _).trans (congrArg (lit 0x3F800000#32 - ·) ((tiled_apply _ _ _).trans (halves_apply _ _ _)))
  | 7 => exact asRow_apply _ _ _

/-- The components' own numbers. -/
theorem bands_apply (b : Fin 128) (d : Fin 32) :
    asRow (tiled (sitofp (F := Ideal) .f32 (iotaInDim S32 32 0))) (ix2 0 (lane b d)) = (((d.val : ℤ) : ℝ) : EReal) := by
  rw [asRow_apply, tiled_apply]
  show (((BitVec.ofNat 32 d.val).toInt : ℝ) : EReal) = _
  have : (BitVec.ofNat 32 d.val).toInt = (d.val : ℤ) := by revert d; decide
  rw [this]

/-- Where an update of the table lands. -/
theorem padded_lands (e : Fin 6) (d : Fin 32) (r k : Fin 32) :
    scatter_S32x32_S1_S6x32_01_n_0_0.resultIdx? (ix2 e d) (broadcastInDim S1 ![] bcast_S_S1 (constantI S_ 32 0#32)) = some (ix2 r k)
      ↔ e.val = r.val ∧ d.val = k.val := by
  refine (Routing.resultIdx?_ix2 (R := 32) (C := 32) scatter_S32x32_S1_S6x32_01_n_0_0 _ _ r k).trans ?_
  have h0 : scatter_S32x32_S1_S6x32_01_n_0_0.window (ix2 e d) 0 = e.val := rfl
  have h1 : scatter_S32x32_S1_S6x32_01_n_0_0.window (ix2 e d) 1 = d.val := rfl
  have s0 : scatter_S32x32_S1_S6x32_01_n_0_0.start (ix2 e d) (broadcastInDim S1 ![] bcast_S_S1 (constantI S_ 32 0#32)) 0 = 0 := rfl
  have s1 : scatter_S32x32_S1_S6x32_01_n_0_0.start (ix2 e d) (broadcastInDim S1 ![] bcast_S_S1 (constantI S_ 32 0#32)) 1 = 0 := rfl
  rw [h0, h1, s0, s1]
  omega

/-- The table's own rows are the upper rows of the padded one. -/
theorem padded_apply (tab : FVec Ideal S6x32 .f32) (e : Fin 6) (d : Fin 32) : padded tab (ix2 ⟨e.val, by omega⟩ d) = tab (ix2 e d) := by
  unfold padded
  refine Routing.scatter_set_hit _ _ _ _ _ _ (fun k hk => ?_) (ix2 e d) ((padded_lands _ _ _ _).2 ⟨rfl, rfl⟩)
  rw [eq_ix2 k] at hk ⊢
  have := (padded_lands _ _ _ _).1 hk
  exact congrArg tab (by rw [show k 0 = e from Fin.ext this.1, show k 1 = d from Fin.ext this.2]; rfl)

end Cert.KernelIdeal.Host

end
-- ==== Proof.Array.lean ====
/-
  The kernel's result array: every block the launch writes back is that block of one function of the arguments.
-/
module

public import proofs.«01_k».proof.Proof.HostAt
public import Idealize.ShloMosaic.Lib.Pipeline.Value
public import Idealize.ShloMosaic.Lib.Pipeline.ValueKit.Geometry

@[expose] public section

set_option maxRecDepth 16384

noncomputable section

namespace Cert.KernelIdeal.Array

open Idealize.ShloMosaic Idealize.ShloMosaic.TcCoe Idealize.SL.Sem Idealize.ShloMosaic.ValueIdx
open Idealize.ShloMosaic.Pipeline (Dat)
open Cert.KernelIdeal Cert.KernelIdeal.Gen Cert.Embed Cert.KernelIdeal.Block Cert.KernelIdeal.Host

variable (m : (ℓ : Loc nD τ sig) → Buf (Elt Ideal) ℓ) (ρ : Dev nD → PrngReg) (c : Dev nD)

theorem N_eq : cfg0.N = 128 := N_0

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![t.val, 0, 0] := (by decide +kernel : ∀ t : Fin grid0.N, _)

/-- The row of the arrays that is row `b` of block `t`. -/
def row (t : Fin cfg0.N) (b : Fin 128) : Fin 16384 := ⟨t.val * 128 + b.val, by have := t.isLt; have := N_eq; omega⟩

/-! ## The input blocks: rows of the staged arguments, and the other arrays whole -/

theorem blk0 (t : Fin cfg0.N) (b : Fin 128) (l : Fin 200) : iblk m c 0 t (ix2 b l) = arg1 m c (ix2 (row t b) l) := by
  rw [show arg1 m c = V m c main_arg1 from (V_main_arg1 m c).symm]
  blk_simp [iblk]
  refine congrArg (V m c main_arg1) ?_
  blk_ext [idx0]
  rfl

theorem blk1 (t : Fin cfg0.N) (b : Fin 128) (l : Fin 200) : iblk m c 1 t (ix2 b l) = arg0 m c (ix2 (row t b) l) := by
  rw [show arg0 m c = V m c main_arg0 from (V_main_arg0 m c).symm]
  blk_simp [iblk]
  refine congrArg (V m c main_arg0) ?_
  blk_ext [idx1]
  rfl

theorem blk2 (t : Fin cfg0.N) (b : Fin 128) (l : Fin 200) : iblk m c 2 t (ix2 b l) = arg2 m c (ix2 (row t b) l) := by
  rw [show arg2 m c = V m c main_arg2 from (V_main_arg2 m c).symm]
  blk_simp [iblk]
  refine congrArg (V m c main_arg2) ?_
  blk_ext [idx2]
  rfl

theorem blk3 (t : Fin cfg0.N) : iblk m c 3 t = V m c main_call0_v18 := by
  funext y; blk_simp [iblk]; refine congrArg (V m c main_call0_v18) ?_; blk_ext [idx3]

theorem blk4 (t : Fin cfg0.N) : iblk m c 4 t = V m c main_call0_v25 := by
  funext y; blk_simp [iblk]; refine congrArg (V m c main_call0_v25) ?_; blk_ext [idx4]

theorem blk5 (t : Fin cfg0.N) : iblk m c 5 t = V m c main_call0_v32 := by
  funext y; blk_simp [iblk]; refine congrArg (V m c main_call0_v32) ?_; blk_ext [idx5]

theorem blk6 (t : Fin cfg0.N) : iblk m c 6 t = V m c main_call0_v80 := by
  funext y; blk_simp [iblk]; refine congrArg (V m c main_call0_v80) ?_; blk_ext [idx6]

theorem blk7 (t : Fin cfg0.N) : iblk m c 7 t = V m c main_call0_v85 := by
  funext y; blk_simp [iblk]; refine congrArg (V m c main_call0_v85) ?_; blk_ext [idx7]

theorem blk8 (t : Fin cfg0.N) : iblk m c 8 t = V m c main_call0_v97 := by
  funext y; blk_simp [iblk]; refine congrArg (V m c main_call0_v97) ?_; blk_ext [idx8]

theorem blk9 (t : Fin cfg0.N) : iblk m c 9 t = V m c main_call0_v116 := by
  funext y; blk_simp [iblk]; refine congrArg (V m c main_call0_v116) ?_; blk_ext [idx9]

theorem blk10 (t : Fin cfg0.N) : iblk m c 10 t = V m c main_call0_v103 := by
  funext y; blk_simp [iblk]; refine congrArg (V m c main_call0_v103) ?_; blk_ext [idx10]

theorem blk11 (t : Fin cfg0.N) : iblk m c 11 t = V m c main_call0_v112 := by
  funext y; blk_simp [iblk]; refine congrArg (V m c main_call0_v112) ?_; blk_ext [idx11]

theorem blk12 (t : Fin cfg0.N) : iblk m c 12 t = V m c main_call0_v121 := by
  funext y; blk_simp [iblk]; refine congrArg (V m c main_call0_v121) ?_; blk_ext [idx12]

/-! ## The result -/

/-- The embedding of element `l` of row `r`, component `d`, from the arguments of device `c`. -/
def value (r : Fin 16384) (l : Fin 200) (d : Fin 32) : EReal :=
  embed sin9 cos8 (arg0 m c (ix2 r l)) (arg1 m c (ix2 r l)) (bandOf (arg2 m c (ix2 r l))) (fun e d => arg3 m c (ix2 e d))
    (fun d => arg4 m c (ix2 d 0)) (fun d => arg5 m c (ix1 d)) (fun k d => arg6 m c (ix2 k d)) (fun d => arg7 m c (ix1 d))
    (fun k d => arg8 m c (ix2 k d)) (fun d => arg9 m c (ix1 d)) d

/-- The whole result array. -/
def whole : Buf (Elt Ideal) ((c : Thread nD τ).loc main_v0) := fun i : S16384x200x32.Idx => value m c (i 0) (i 1) (i 2)

/-- The range the bands come from. -/
def Bands : Prop := ∀ i : S16384x200.Idx, 0 ≤ (arg2 m c i).toInt ∧ (arg2 m c i).toInt < 6

/-- What the body leaves in the result's block, element by element. -/
theorem out_value (hb : Bands m c) (t : Fin cfg0.N) (b : Fin 128) (l : Fin 200) (d : Fin 32) :
    acc (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 l (lane b d)) = value m c (row t b) l d := by
  have hband := hb (ix2 (row t b) l)
  rw [acc_lane (fw := fun d => arg4 m c (ix2 d 0)) (b1 := fun d => arg7 m c (ix1 d)) (bias := fun d => arg9 m c (ix1 d) + arg5 m c (ix1 d))
    (W1 := fun k d => arg6 m c (ix2 k d)) (W2 := fun k d => arg8 m c (ix2 k d)) (T := fun k d => padded (arg3 m c) (ix2 k d))
    (e := ⟨(bandOf (arg2 m c (ix2 (row t b) l))).val, by omega⟩)
    (h3 := fun q i d => by rw [blk3, read_freq, diagRow_apply, joined_freqs_apply])
    (h4 := fun q i d => by
      rw [blk4, read_flux, diagRow_apply, shapeCast_apply _ _ _ (ix2 d 0) (by
        rw [Shape.rowMajor_val_two, Shape.rowMajor_val_one]
        show d.val * 1 + 0 = d.val
        omega)])
    (h5 := fun q i d => by rw [blk5, read_ones, diagRow_apply]; exact congrArg _ lit_one)
    (h6 := fun r b d => by rw [blk6, read_coefs, coefs_apply])
    (h7 := fun b d => by rw [blk7, read_bands, bands_apply])
    (h8 := fun i j k d => by rw [blk8, read_first, diagMat_apply])
    (h9 := fun b d => by rw [blk9, read_firstBias, asRow_apply, tiled_apply])
    (h10 := fun i j k d => by rw [blk10, read_second, diagMat_apply])
    (h11 := fun i j k d => by rw [blk11, read_table, diagMat_apply])
    (h12 := fun b d => by rw [blk12, read_bias, asRow_apply, tiled_apply]; rfl)
    (he := by rw [blk2]; exact bandOf_toInt _ hband.1 hband.2)]
  rw [blk0, blk1]
  simp only [padded_apply]
  unfold value embed
  abel

/-- What point `t` writes back is block `t` of the whole result. -/
theorem flushed_eq (hb : Bands m c) (t : Fin cfg0.N) : (dats m 0 c).flushed 13 t = ((cfg0.win 13).blk t).view.read (Elt Ideal) (whole m c) := by
  funext y
  blk_simp
  rw [after0_13, out_eq]
  refine (out_value m c hb t (y 0) (y 1) (y 2)).trans ?_
  have h : (win0_13.blk t).view.emb y = ix3 (row t (y 0)) (y 1) (y 2) := by
    blk_ext [idx13] <;> rfl
  rw [h]
  rfl

/-- Every element of the result is in the block of its row. -/
theorem final (hb : Bands m c) : (dats m 0 c).arrAt 13 cfg0.N = whole m c :=
  (dats m 0 c).arrAt_eq_of_covers 13 (whole m c) (by decide +kernel) fun t _ y => congrFun (flushed_eq m c hb t) y

end Cert.KernelIdeal.Array

end
-- ==== Proof.RefAt.lean ====
/-
  The reference's result at an index, at the ideal values.
-/
module

public import proofs.«01_k».proof.Proof.Embed
public import proofs.«01_k».proof.Proof.Gen.ReferenceIdeal.Read
public import Idealize.ShloMosaic.Lib.ReduceAll
public import Idealize.ShloMosaic.Lib.Pipeline.Value

@[expose] public section

set_option maxRecDepth 16384

noncomputable section

namespace Cert.ReferenceIdeal.At

open Idealize.ShloMosaic Idealize.ShloMosaic.TcCoe Idealize.ShloMosaic.ValueIdx
open Cert.ReferenceIdeal Cert.ReferenceIdeal.Gen Cert.ReferenceIdeal.Read Cert.Embed
open scoped BigOperators

variable (x0 x1 : FVec Ideal S16384x200 .f32) (x2 : IVec S16384x200 32) (x3 : FVec Ideal S6x32 .f32) (x4 : FVec Ideal S32x1 .f32)
  (x5 : FVec Ideal S32 .f32) (x6 : FVec Ideal S32x32 .f32) (x7 : FVec Ideal S32 .f32) (x8 : FVec Ideal S32x32 .f32) (x9 : FVec Ideal S32 .f32)

/-! ## The features -/

theorem freq_apply (k : Fin 16) : val_main_v5 (F := Ideal) (ix1 k) = freq k := rfl

/-- The angle of a time at a frequency. -/
theorem angle_apply (r : Fin 16384) (l : Fin 200) (k : Fin 16) : val_main_v10 (F := Ideal) x1 (ix3 r l k) = x1 (ix2 r l) * freq k := by
  rw [val_main_v10_apply, val_main_v8_apply, val_main_v6_apply, val_main_v9_apply, val_main_v7_apply]
  refine congrArg₂ (· * ·) (congrArg x1 ?_) ((congrArg (val_main_v5 (F := Ideal)) ?_).trans (freq_apply k))
  · exact (eq_ix2 _).trans rfl
  · exact (eq_ix1 _).trans rfl

/-- The sine's half. -/
theorem sin_apply (r : Fin 16384) (l : Fin 200) (k : Fin 16) : val_main_v25 (F := Ideal) x1 (ix3 r l k) = sin9 (x1 (ix2 r l) * freq k) := by
  rw [← angle_apply x1 r l k]
  rfl

/-- The cosine's half. -/
theorem cos_apply (r : Fin 16384) (l : Fin 200) (k : Fin 16) : val_main_v39 (F := Ideal) x1 (ix3 r l k) = cos8 (x1 (ix2 r l) * freq k) := by
  rw [← angle_apply x1 r l k]
  rfl

/-- The features of a time. -/
theorem feature_apply (r : Fin 16384) (l : Fin 200) (d : Fin 32) :
    val_main_v40 (F := Ideal) x1 (ix3 r l d) = feature sin9 cos8 (x1 (ix2 r l)) d := by
  unfold val_main_v40 feature
  by_cases h : d.val < 16
  · rw [if_pos h, ← sin_apply]
    refine concatenate_pair_apply_left (t := S16384x200x32) (s₁ := S16384x200x16) (s₂ := S16384x200x16) 2 _ _ _ (ix3 r l d) rfl (ix3 r l (half d)) fun e => ?_
    match e with
    | ⟨0, _⟩ => rfl
    | ⟨1, _⟩ => rfl
    | ⟨2, _⟩ => exact Nat.mod_eq_of_lt h
  · rw [if_neg h, ← cos_apply]
    refine concatenate_pair_apply_right (t := S16384x200x32) (s₁ := S16384x200x16) (s₂ := S16384x200x16) 2 _ _ _ (ix3 r l d) rfl rfl (ix3 r l (half d)) (fun e he => ?_) ?_
    · match e with
      | ⟨0, _⟩ => rfl
      | ⟨1, _⟩ => rfl
      | ⟨2, _⟩ => exact absurd rfl he
    · show d.val % 16 + 16 = d.val
      omega

/-! ## The layers -/

/-- The first layer before its activation. -/
theorem first_apply (r : Fin 16384) (l : Fin 200) (j : Fin 32) :
    val_main_v44 (F := Ideal) x1 x6 x7 (ix3 r l j) = (∑ k : Fin 32, feature sin9 cos8 (x1 (ix2 r l)) k * x6 (ix2 k j)) + x7 (ix1 j) := by
  rw [val_main_v44_apply, val_main_v41_apply, val_main_v43_apply, val_main_v42_apply]
  refine congrArg₂ (· + ·) (Finset.sum_congr rfl fun k _ => congrArg₂ (· * ·) ?_ (congrArg x6 ((eq_ix2 _).trans rfl))) (congrArg x7 ((eq_ix1 _).trans rfl))
  rw [← feature_apply]
  exact congrArg _ ((eq_ix3 _).trans rfl)

/-- The activation. -/
theorem silu_apply (r : Fin 16384) (l : Fin 200) (j : Fin 32) :
    val_main_v45 (F := Ideal) x1 x6 x7 (ix3 r l j) = silu (val_main_v44 (F := Ideal) x1 x6 x7 (ix3 r l j)) := by
  generalize hv : val_main_v44 (F := Ideal) x1 x6 x7 (ix3 r l j) = h
  have e : val_main_v45 (F := Ideal) x1 x6 x7 (ix3 r l j) = h * Ideal.div (lit 0x3F800000#32) (lit 0x3F800000#32 + Ideal.exp (-h)) := by
    rw [← hv]; rfl
  rw [e, lit_one]
  rfl

/-- The second layer before its bias. -/
theorem second_apply (r : Fin 16384) (l : Fin 200) (d : Fin 32) :
    val_main_v46 (F := Ideal) x1 x6 x7 x8 (ix3 r l d)
      = mlp (feature sin9 cos8 (x1 (ix2 r l))) (fun k d => x6 (ix2 k d)) (fun d => x7 (ix1 d)) (fun k d => x8 (ix2 k d)) d := by
  rw [val_main_v46_apply]
  refine Finset.sum_congr rfl fun j _ => congrArg₂ (· * ·) ?_ (congrArg x8 ((eq_ix2 _).trans rfl))
  rw [← first_apply, ← silu_apply]
  exact congrArg _ ((eq_ix3 _).trans rfl)

/-- The brightness part. -/
theorem flux_apply (r : Fin 16384) (l : Fin 200) (d : Fin 32) :
    val_main_v59 (F := Ideal) x0 x4 x5 (ix3 r l d) = x0 (ix2 r l) * x4 (ix2 d 0) + x5 (ix1 d) := by
  rw [val_main_v59_apply, val_main_v56_apply, val_main_v54_apply, val_main_v51_apply, val_main_v55_apply, val_main_v53_apply,
    val_main_v52_apply, val_main_v58_apply, val_main_v57_apply]
  refine congrArg₂ (· + ·) (congrArg₂ (· * ·) (congrArg x0 ((eq_ix2 _).trans rfl)) (congrArg x4 ?_)) (congrArg x5 ((eq_ix1 _).trans rfl))
  refine (eq_ix2 _).trans (congrArg₂ ix2 (Fin.ext (?_ : d.val / 1 = d.val)) (Subsingleton.elim (α := Fin 1) _ _))
  exact Nat.div_one _

/-! ## The band -/

/-- A band in range is one of six words. -/
theorem word_eq (w : BitVec 32) (h0 : 0 ≤ w.toInt) (h6 : w.toInt < 6) : w = BitVec.ofNat 32 (bandOf w).val := by
  have h := bandOf_toInt w h0 h6
  have h2 : (BitVec.ofNat 32 (bandOf w).val).toInt = ((bandOf w).val : ℤ) := by
    generalize bandOf w = e
    revert e; decide
  exact BitVec.eq_of_toInt_eq (h.trans h2.symm)

theorem wrapped_word (e : Fin 6) : Scalar.select (IntOp.cmpi .slt (BitVec.ofNat 32 e.val) 0#32) (IntOp.addi (BitVec.ofNat 32 e.val) 6#32) (BitVec.ofNat 32 e.val)
    = BitVec.ofNat 32 e.val := by
  revert e; decide

theorem mask_word (e : Fin 6) : IntOp.andi (IntOp.cmpi .sge (BitVec.ofNat 32 e.val) 0#32) (IntOp.cmpi .sle (BitVec.ofNat 32 e.val) 5#32) = 1#1 := by
  revert e; decide

theorem start_word (e : Fin 6) : min (BitVec.ofNat 32 e.val).toInt.toNat 5 = e.val := by
  revert e; decide

variable (hb : ∀ i : S16384x200.Idx, 0 ≤ (x2 i).toInt ∧ (x2 i).toInt < 6)
include hb

/-- The index the table is read at: the band itself, which is not negative. -/
theorem index_apply (i : S16384x200x1.Idx) : val_main_call1_v5 (F := Ideal) x2 i = BitVec.ofNat 32 (bandOf (x2 (ix2 (i 0) (i 1)))).val := by
  rw [val_main_call1_v5_apply, show idx_main_call1_v5 i = ix2 (i 0) (i 1) from (eq_ix2 _).trans rfl]
  have h := word_eq _ (hb (ix2 (i 0) (i 1))).1 (hb (ix2 (i 0) (i 1))).2
  show Scalar.select (IntOp.cmpi .slt (x2 (ix2 (i 0) (i 1))) 0#32) (IntOp.addi (x2 (ix2 (i 0) (i 1))) 6#32) (x2 (ix2 (i 0) (i 1))) = _
  rw [h]
  exact (wrapped_word _).trans (congrArg (fun w => BitVec.ofNat 32 (bandOf w).val) h)

/-- Every index is in range. -/
theorem mask_apply (i : S16384x200x1.Idx) : val_main_call1_v11 (F := Ideal) x2 i = 1#1 := by
  show IntOp.andi (IntOp.cmpi .sge (val_main_call1_v5 (F := Ideal) x2 i) 0#32) (IntOp.cmpi .sle (val_main_call1_v5 (F := Ideal) x2 i) 5#32) = 1#1
  rw [index_apply x2 hb]
  exact mask_word _

/-- The row of the table. -/
theorem gather_apply (r : Fin 16384) (l : Fin 200) (d : Fin 32) :
    val_main_call1_v13 (F := Ideal) x2 x3 (ix3 r l d) = x3 (ix2 (bandOf (x2 (ix2 r l))) d) := by
  unfold val_main_call1_v13 Host.gather
  refine congrArg x3 (funext fun a => Fin.ext ?_)
  match a with
  | ⟨0, _⟩ =>
    have e := index_apply x2 hb (ix3 r l 0)
    generalize val_main_call1_v5 (F := Ideal) x2 = idx at e
    show min (idx _).toInt.toNat 5 + 0 + 0 = _
    have hi : gather_S6x32_S16384x200x1_S16384x200x32_2_0_n_n_0_2_132.siIdx (ix3 r l d) ⟨0, by decide⟩ = ix3 r l 0 := by
      funext b
      match b with
      | ⟨0, _⟩ => rfl
      | ⟨1, _⟩ => rfl
      | ⟨2, _⟩ => rfl
    refine (congrArg (fun k => min (idx k).toInt.toNat 5) hi).trans ?_
    rw [e]
    exact start_word _
  | ⟨1, _⟩ =>
    show 0 + 0 + d.val = d.val
    omega

/-- The band part. -/
theorem band_apply (r : Fin 16384) (l : Fin 200) (d : Fin 32) :
    val_main_v50 (F := Ideal) x2 x3 (ix3 r l d) = x3 (ix2 (bandOf (x2 (ix2 r l))) d) := by
  rw [val_main_v50_apply, val_main_call1_v14_apply]
  have hm : val_main_call1_v12 (F := Ideal) x2 (idx_main_call1_v14 (ix3 r l d)) = 1#1 :=
    Host.reduce_andi_one _ _ _ _ _ rfl (mask_apply x2 hb)
  rw [hm, gather_apply x2 x3 hb]
  exact if_pos rfl

/-- The result at an index. -/
theorem result_apply (r : Fin 16384) (l : Fin 200) (d : Fin 32) :
    val_main_v61 (F := Ideal) x0 x1 x2 x3 x4 x5 x6 x7 x8 x9 (ix3 r l d)
      = embed sin9 cos8 (x0 (ix2 r l)) (x1 (ix2 r l)) (bandOf (x2 (ix2 r l))) (fun e d => x3 (ix2 e d)) (fun d => x4 (ix2 d 0))
          (fun d => x5 (ix1 d)) (fun k d => x6 (ix2 k d)) (fun d => x7 (ix1 d)) (fun k d => x8 (ix2 k d)) (fun d => x9 (ix1 d)) d := by
  rw [val_main_v61_apply, val_main_v60_apply, flux_apply, band_apply x2 x3 hb, val_main_v49_apply, second_apply]
  unfold embed
  refine congrArg (fun z => (x0 (ix2 r l) * x4 (ix2 d 0) + x5 (ix1 d)) + (mlp (feature sin9 cos8 (x1 (ix2 r l))) (fun k d => x6 (ix2 k d)) (fun d => x7 (ix1 d)) (fun k d => x8 (ix2 k d)) d + z) + x3 (ix2 (bandOf (x2 (ix2 r l))) d)) ?_
  rw [val_main_v48_apply, val_main_v47_apply]
  exact congrArg x9 ((eq_ix1 _).trans rfl)

end Cert.ReferenceIdeal.At

end
-- ==== Proof.lean ====
/-
  The proof of the certificate's claim: the two frames of the kernel, the frame of the reference, and the
  equality of the idealized kernel's result with the idealized reference's, element by element.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Array
public import proofs.«01_k».proof.Proof.RefAt
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx
open Idealize.ShloMosaic.Pipeline (Dat)

/-- The shape relation the precondition states. -/
theorem facts_pre : Cert.Pre_in_range.Facts := ⟨by decide⟩

attribute [local instance] Cert.Kernel.Gen.facts Cert.KernelIdeal.Gen.facts Cert.ReferenceIdeal.Gen.facts facts_pre

/-! ## The precondition -/

/-- A word that passes both comparisons is between 0 and 5. -/
theorem word_range (w : BitVec 32) (h : IntOp.andi (IntOp.cmpi .sge w 0#32) (IntOp.cmpi .slt w 6#32) = 1#1) : 0 ≤ w.toInt ∧ w.toInt < 6 := by
  obtain ⟨h0, h6⟩ := IntOp.andi_eq_one.1 h
  exact ⟨IntOp.cmpi_sge.1 h0, IntOp.cmpi_slt.1 h6⟩

/-- Under the precondition every band is between 0 and 5. -/
theorem bands (m : (ℓ : Loc Cert.KernelIdeal.nD Cert.KernelIdeal.τ Cert.KernelIdeal.sig) → Buf (Elt Ideal) ℓ)
    (h : Cert.Pre_KernelIdeal_in_range m) (c : Dev Cert.KernelIdeal.nD) : Cert.KernelIdeal.Array.Bands m c :=
  fun i => word_range _ (congrFun (h c) i)

/-! ## The frames -/

/-- The kernel as printed ends with its arguments unchanged and every counter at zero. -/
theorem frame_kernel : Cert.quiescent_Kernel := fun m ρ _ => Cert.Kernel.Gen.frame m ρ

/-- So does the idealized kernel, from any memory. -/
theorem frame_ideal : Cert.quiescent_KernelIdeal := fun m ρ _ => Cert.KernelIdeal.Gen.frame m ρ

/-- And so from a memory in range. -/
theorem frame_ideal_pre : Cert.quiescent_KernelIdeal_pre_in_range := fun m ρ _ => Cert.KernelIdeal.Gen.frame m ρ

/-- The idealized reference ends with its arguments unchanged; it declares no counter. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- And so from a memory in range. -/
theorem frame_reference_pre : Cert.quiescent_ReferenceIdeal_pre_in_range := fun m ρ _ => frame_reference m ρ trivial

/-! ## The value -/

section Run

open Cert.KernelIdeal Cert.KernelIdeal.Gen

variable (m : (ℓ : Loc nD τ sig) → Buf (Elt Ideal) ℓ) (ρ : Dev nD → PrngReg)

/-- From a memory in range the idealized kernel ends with `Array.whole` in its result. -/
theorem kernel_result (hb : ∀ c, Array.Bands m c) : θ_run defs (onTc (τ := τ) (main (F := Ideal))) ⟨m, fun _ => 0, ρ⟩
    (fun r => ∀ c : Dev nD, r.2.mem ((c.tc : Thread nD τ).loc main_v0) = Array.whole m c) :=
  (θ_run defs _ _).mono (fun _ h c => ((h c).1 13).trans (Array.final m c (hb c))) (run_main m ρ)

end Run

/-- The reference's result, at the arguments of the kernel, is `Array.whole` of them. -/
theorem reference_result (m : (ℓ : Loc Cert.KernelIdeal.nD Cert.KernelIdeal.τ Cert.KernelIdeal.sig) → Buf (Elt Ideal) ℓ)
    (c : Dev Cert.KernelIdeal.nD) (hb : Cert.KernelIdeal.Array.Bands m c) :
    Cert.ReferenceIdeal.Read.val_main_v61 (F := Ideal) (Cert.KernelIdeal.Host.arg0 m c) (Cert.KernelIdeal.Host.arg1 m c)
      (Cert.KernelIdeal.Host.arg2 m c) (Cert.KernelIdeal.Host.arg3 m c) (Cert.KernelIdeal.Host.arg4 m c) (Cert.KernelIdeal.Host.arg5 m c)
      (Cert.KernelIdeal.Host.arg6 m c) (Cert.KernelIdeal.Host.arg7 m c) (Cert.KernelIdeal.Host.arg8 m c) (Cert.KernelIdeal.Host.arg9 m c)
      = Cert.KernelIdeal.Array.whole m c := by
  funext i
  refine (congrArg _ (eq_ix3 i)).trans ?_
  exact Cert.ReferenceIdeal.At.result_apply _ _ _ _ _ _ _ _ _ _ hb (i 0) (i 1) (i 2)

/-- The idealized kernel and the idealized reference end with the same array in their results. -/
theorem value : Cert.algebraic_KernelIdeal_ReferenceIdeal_pre_in_range := by
  intro m g m' g' hpre hargs
  refine ⟨fun c => Cert.KernelIdeal.Array.whole m c,
    (θ_run Cert.KernelIdeal.defs _ _).mono (fun r h c => ⟨h.1 c, h.2 c⟩)
      (θ_run_and (kernel_result m g (bands m hpre)) (Cert.KernelIdeal.Gen.unchanged m g)),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6, h7, h8, h9⟩ := hargs c
  rw [Cert.ReferenceIdeal.Read.val_main_v61_eq, h0, h1, h2, h3, h4, h5, h6, h7, h8, h9]
  exact reference_result m c (bands m hpre c)

/-- Everything the certificate claims. -/
theorem claim : Cert.Claim :=
  ⟨Cert.Kernel.Gen.facts, Cert.KernelIdeal.Gen.facts, Cert.ReferenceIdeal.Gen.facts, facts_pre,
    frame_kernel, frame_ideal, frame_ideal_pre, frame_reference, frame_reference_pre, trivial, value⟩

end Cert.Proof

end
